-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S6 : Shape := ⟨1, ![6]⟩
abbrev S_ : Shape := ⟨0, ![]⟩
abbrev S1 : Shape := ⟨1, ![1]⟩

abbrev nBuf : Space → Nat
  | .hbm => 8
  | .vmem => 20
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_scratch10 : Ref sig .tc := ⟨.vmem, 18, rfl⟩
abbrev cc0_scratch11 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v18 : BitVec 32 := Scalar.muli v7 c1_i32_15
  let v19 : BitVec 32 := Scalar.addi c0_i32_16 v18
  v19.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_19 : BitVec 32 := 1#32
  let v24 : BitVec 32 := Scalar.muli v5 c1_i32_19
  let v25 : BitVec 32 := Scalar.addi c0_i32_20 v24
  v25.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_47 : BitVec 32 := 1#32
  let v54 : BitVec 32 := Scalar.muli v7 c1_i32_47
  let v55 : BitVec 32 := Scalar.addi c0_i32_48 v54
  v55.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_90 : BitVec 32 := 1#32
  let v102 : BitVec 32 := Scalar.muli v5 c1_i32_90
  let v103 : BitVec 32 := Scalar.addi c0_i32_91 v102
  v103.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_107 : BitVec 32 := 1#32
  let v120 : BitVec 32 := Scalar.muli v5 c1_i32_107
  let v121 : BitVec 32 := Scalar.addi c0_i32_108 v120
  v121.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_110 : BitVec 32 := 1#32
  let v126 : BitVec 32 := Scalar.muli v7 c1_i32_110
  let v127 : BitVec 32 := Scalar.addi c0_i32_111 v126
  v127.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_136 : BitVec 32 := 1#32
  let v152 : BitVec 32 := Scalar.muli v7 c1_i32_136
  let v153 : BitVec 32 := Scalar.addi c0_i32_137 v152
  v153.toNat
def k0_dev10 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_140 : BitVec 32 := 1#32
  let v158 : BitVec 32 := Scalar.muli v5 c1_i32_140
  let v159 : BitVec 32 := Scalar.addi c0_i32_141 v158
  v159.toNat
def k0_dev11 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_169 : BitVec 32 := 1#32
  let v188 : BitVec 32 := Scalar.muli v7 c1_i32_169
  let v189 : BitVec 32 := Scalar.addi c0_i32_170 v188
  v189.toNat
def k0_dev12 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_213 : BitVec 32 := 1#32
  let v236 : BitVec 32 := Scalar.muli v5 c1_i32_213
  let v237 : BitVec 32 := Scalar.addi c0_i32_214 v236
  v237.toNat
def k0_dev13 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_230 : BitVec 32 := 1#32
  let v254 : BitVec 32 := Scalar.muli v5 c1_i32_230
  let v255 : BitVec 32 := Scalar.addi c0_i32_231 v254
  v255.toNat
def k0_dev14 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_234 : BitVec 32 := 1#32
  let v260 : BitVec 32 := Scalar.muli v7 c1_i32_234
  let v261 : BitVec 32 := Scalar.addi c0_i32_235 v260
  v261.toNat
def k0_dev15 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_260 : BitVec 32 := 1#32
  let v286 : BitVec 32 := Scalar.muli v7 c1_i32_260
  let v287 : BitVec 32 := Scalar.addi c0_i32_261 v286
  v287.toNat
def k0_dev16 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_264 : BitVec 32 := 1#32
  let v292 : BitVec 32 := Scalar.muli v5 c1_i32_264
  let v293 : BitVec 32 := Scalar.addi c0_i32_265 v292
  v293.toNat
def k0_dev17 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_293 : BitVec 32 := 1#32
  let v322 : BitVec 32 := Scalar.muli v7 c1_i32_293
  let v323 : BitVec 32 := Scalar.addi c0_i32_294 v322
  v323.toNat
def k0_dev18 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_337 : BitVec 32 := 1#32
  let v370 : BitVec 32 := Scalar.muli v5 c1_i32_337
  let v371 : BitVec 32 := Scalar.addi c0_i32_338 v370
  v371.toNat
def k0_dev19 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_354 : BitVec 32 := 1#32
  let v388 : BitVec 32 := Scalar.muli v5 c1_i32_354
  let v389 : BitVec 32 := Scalar.addi c0_i32_355 v388
  v389.toNat
def k0_dev20 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_358 : BitVec 32 := 1#32
  let v394 : BitVec 32 := Scalar.muli v7 c1_i32_358
  let v395 : BitVec 32 := Scalar.addi c0_i32_359 v394
  v395.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x256 : Shape := ⟨2, ![1024, 256]⟩
abbrev S256x2048 : Shape := ⟨2, ![256, 2048]⟩
abbrev S2048x256 : Shape := ⟨2, ![2048, 256]⟩
abbrev S1024x2048 : Shape := ⟨2, ![1024, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x256, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x256, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.LayersKernelIdeal.lean ====
/-
# The kernel as a prologue and three runs of one layer

The kernel's text handles three layers in a row. Each layer is the same sequence of six copies, four small
perceptrons and their sums, over its own pair of weights. This module writes that sequence once (`layer`), writes
the kernel as a prologue followed by three layers (`whole`), and shows that the printed kernel is `whole`.
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]

/-! ## The buffers -/

abbrev Blk : Type := Memref sig .tc .vmem S256x256 .f32

/-- The device's block of the activations; -/
abbrev xM : Blk := Memref.whole cc0_scratch0
/-- the left neighbour's, the right neighbour's and the opposite device's blocks as they land; -/
abbrev aL : Blk := Memref.whole cc0_scratch1
abbrev aR : Blk := Memref.whole cc0_scratch2
abbrev aD : Blk := Memref.whole cc0_scratch3
/-- the landing places of the partial sums; -/
abbrev rA : Blk := Memref.whole cc0_scratch4
abbrev fL : Blk := Memref.whole cc0_scratch5
abbrev fR : Blk := Memref.whole cc0_scratch6
/-- this device's partial products for itself, its left, its right and the opposite device; -/
abbrev pO : Blk := Memref.whole cc0_scratch7
abbrev pL : Blk := Memref.whole cc0_scratch8
abbrev pR : Blk := Memref.whole cc0_scratch9
abbrev pD : Blk := Memref.whole cc0_scratch10
/-- the sum staged to be sent on. -/
abbrev st : Blk := Memref.whole cc0_scratch11

/-- The six semaphores a copy's departure is counted on, and the six its arrival is counted on. -/
def sS : Fin 6 → DmaSem sig
  | 0 => ((cc0_scratch12.slice (Rect.unit (s := S6) ![0] S1.size inb_S6_S1_0)).squeeze S_ squeezes_S1_S_).sem
  | 1 => ((cc0_scratch12.slice (Rect.unit (s := S6) ![1] S1.size inb_S6_S1_1)).squeeze S_ squeezes_S1_S_).sem
  | 2 => ((cc0_scratch12.slice (Rect.unit (s := S6) ![2] S1.size inb_S6_S1_2)).squeeze S_ squeezes_S1_S_).sem
  | 3 => ((cc0_scratch12.slice (Rect.unit (s := S6) ![3] S1.size inb_S6_S1_3)).squeeze S_ squeezes_S1_S_).sem
  | 4 => ((cc0_scratch12.slice (Rect.unit (s := S6) ![4] S1.size inb_S6_S1_4)).squeeze S_ squeezes_S1_S_).sem
  | 5 => ((cc0_scratch12.slice (Rect.unit (s := S6) ![5] S1.size inb_S6_S1_5)).squeeze S_ squeezes_S1_S_).sem
def rS : Fin 6 → DmaSem sig
  | 0 => ((cc0_scratch13.slice (Rect.unit (s := S6) ![0] S1.size inb_S6_S1_0)).squeeze S_ squeezes_S1_S_).sem
  | 1 => ((cc0_scratch13.slice (Rect.unit (s := S6) ![1] S1.size inb_S6_S1_1)).squeeze S_ squeezes_S1_S_).sem
  | 2 => ((cc0_scratch13.slice (Rect.unit (s := S6) ![2] S1.size inb_S6_S1_2)).squeeze S_ squeezes_S1_S_).sem
  | 3 => ((cc0_scratch13.slice (Rect.unit (s := S6) ![3] S1.size inb_S6_S1_3)).squeeze S_ squeezes_S1_S_).sem
  | 4 => ((cc0_scratch13.slice (Rect.unit (s := S6) ![4] S1.size inb_S6_S1_4)).squeeze S_ squeezes_S1_S_).sem
  | 5 => ((cc0_scratch13.slice (Rect.unit (s := S6) ![5] S1.size inb_S6_S1_5)).squeeze S_ squeezes_S1_S_).sem

abbrev barS : Sem sig := (SemArray.scalar (sig.barrier 0 rfl) : Sems sig S_).sem

theorem wx (b : Ref sig .tc) : (Memref.whole b).view.WordExact := (Memref.isWhole_whole b).wordExact

abbrev TProg (α : Type) : Type 1 := Prog (TpuEff nD τ sig (Elt F) Λ₀ .tc) α

/-! ## Whole loads, whole stores, copies -/

abbrev rSq : Rect S256x256 := Rect.unit (s := S256x256) ![0, 0] S256x256.size inb_S256x256_S256x256_0_0
abbrev rIn : Rect S256x512 := Rect.unit (s := S256x512) ![0, 0] S256x512.size inb_S256x512_S256x512_0_0
abbrev rOut : Rect S512x256 := Rect.unit (s := S512x256) ![0, 0] S512x256.size inb_S512x256_S512x256_0_0

abbrev ldB (M : Blk) : TProg (F := F) (Vec F S256x256 .f32) := Prog.lift (.load M rSq.toLoadRect (View.loadsAt_vmem h_S256x256))
abbrev ldIn (M : Memref sig .tc .vmem S256x512 .f32) : TProg (F := F) (Vec F S256x512 .f32) := Prog.lift (.load M rIn.toLoadRect (View.loadsAt_vmem h_S256x512))
abbrev ldOut (M : Memref sig .tc .vmem S512x256 .f32) : TProg (F := F) (Vec F S512x256 .f32) := Prog.lift (.load M rOut.toLoadRect (View.loadsAt_vmem h_S512x256))
abbrev stB (M : Blk) (v : FVec F S256x256 .f32) : TProg (F := F) PUnit :=
  Prog.lift (.store M rSq v Finset.univ (View.stores_vmem_bits_univ h_S256x256 rfl) (.inl rfl))
abbrev waitB (s : DmaSem sig) (b b' : Blk) (h : b.view.WordExact) (h' : b'.view.WordExact) : TProg (F := F) PUnit :=
  Prog.lift (.waitDma2 s b b' h h')
abbrev sendB (k : Fin 6) (n : Dev nD) (b b' : Blk) (h : b.view.WordExact) (h' : b'.view.WordExact)
    (hs : b'.view.ref.isScScratch = false) (ht : DmaTarget.Typed (p := .tc) .vmem (.dma (rS k)) (.remote (Dev.tc n : Thread nD τ) b' (.dma (sS k)) hs)) : TProg (F := F) PUnit :=
  Prog.lift (.enqueueDma b (.remote (Dev.tc n : Thread nD τ) b' (.dma (sS k)) hs) (.dma (rS k)) h h' ht)

/-! ## One layer -/

/-- One layer, up to its sum: the device ids of its six copies and its two weight memrefs are parameters. It gives
    back the block to be stored. -/
def layer (d : Fin 6 → Dev nD) (wi : Memref sig .tc .vmem S256x512 .f32) (wo : Memref sig .tc .vmem S512x256 .f32) :
    TProg (F := F) (FVec F S256x256 .f32) := do
  sendB 0 (d 0) xM aL (wx _) (wx _) rfl ⟨⟨rfl, Or.inl rfl⟩, trivial⟩
  sendB 1 (d 1) xM aR (wx _) (wx _) rfl ⟨⟨rfl, Or.inl rfl⟩, trivial⟩
  let x ← ldB xM
  let u ← ldIn wi
  let w ← ldOut wo
  let _ ← ldB pO
  stB pO (k0_pay2 x u w)
  waitB (sS 0) aL xM (wx _) (wx _)
  waitB (rS 0) xM aL (wx _) (wx _)
  waitB (sS 1) aR xM (wx _) (wx _)
  waitB (rS 1) xM aR (wx _) (wx _)
  sendB 2 (d 2) aL aD (wx _) (wx _) rfl ⟨⟨rfl, Or.inl rfl⟩, trivial⟩
  let x ← ldB aL
  let u ← ldIn wi
  let w ← ldOut wo
  let _ ← ldB pL
  stB pL (k0_pay2 x u w)
  let x ← ldB aR
  let u ← ldIn wi
  let w ← ldOut wo
  let _ ← ldB pR
  stB pR (k0_pay2 x u w)
  waitB (sS 2) aD aL (wx _) (wx _)
  waitB (rS 2) aL aD (wx _) (wx _)
  let x ← ldB aD
  let u ← ldIn wi
  let w ← ldOut wo
  let _ ← ldB pD
  stB pD (k0_pay2 x u w)
  sendB 3 (d 3) pD rA (wx _) (wx _) rfl ⟨⟨rfl, Or.inl rfl⟩, trivial⟩
  waitB (sS 3) rA pD (wx _) (wx _)
  waitB (rS 3) pD rA (wx _) (wx _)
  let a ← ldB pL
  let b ← ldB rA
  let _ ← ldB st
  stB st (k0_pay6 a b)
  sendB 4 (d 4) st fR (wx _) (wx _) rfl ⟨⟨rfl, Or.inl rfl⟩, trivial⟩
  sendB 5 (d 5) pR fL (wx _) (wx _) rfl ⟨⟨rfl, Or.inl rfl⟩, trivial⟩
  waitB (sS 4) fR st (wx _) (wx _)
  waitB (rS 4) st fR (wx _) (wx _)
  waitB (sS 5) fL pR (wx _) (wx _)
  waitB (rS 5) pR fL (wx _) (wx _)
  let a ← ldB pO
  let b ← ldB fL
  let e ← ldB fR
  pure (k0_pay15 a b e)

/-! ## The kernel -/

/-- The devices the printed text names for the copies of each layer. -/
def devs0 (c : Dev nD) : Fin 6 → Dev nD
  | 0 => ⟨k0_dev3 c, k0_dev3_lt c⟩ | 1 => ⟨k0_dev4 c, k0_dev4_lt c⟩ | 2 => ⟨k0_dev5 c, k0_dev5_lt c⟩
  | 3 => ⟨k0_dev6 c, k0_dev6_lt c⟩ | 4 => ⟨k0_dev7 c, k0_dev7_lt c⟩ | 5 => ⟨k0_dev8 c, k0_dev8_lt c⟩
def devs1 (c : Dev nD) : Fin 6 → Dev nD
  | 0 => ⟨k0_dev9 c, k0_dev9_lt c⟩ | 1 => ⟨k0_dev10 c, k0_dev10_lt c⟩ | 2 => ⟨k0_dev11 c, k0_dev11_lt c⟩
  | 3 => ⟨k0_dev12 c, k0_dev12_lt c⟩ | 4 => ⟨k0_dev13 c, k0_dev13_lt c⟩ | 5 => ⟨k0_dev14 c, k0_dev14_lt c⟩
def devs2 (c : Dev nD) : Fin 6 → Dev nD
  | 0 => ⟨k0_dev15 c, k0_dev15_lt c⟩ | 1 => ⟨k0_dev16 c, k0_dev16_lt c⟩ | 2 => ⟨k0_dev17 c, k0_dev17_lt c⟩
  | 3 => ⟨k0_dev18 c, k0_dev18_lt c⟩ | 4 => ⟨k0_dev19 c, k0_dev19_lt c⟩ | 5 => ⟨k0_dev20 c, k0_dev20_lt c⟩

/-- The handshake with both neighbours on the barrier semaphore, and the input block taken into `xM`. -/
def prologue (x : Blk) (d : Dev nD) : TProg (F := F) PUnit := do
  semSignalWord (⟨k0_dev1 d, k0_dev1_lt d⟩ : Dev nD) barS 1#32
  semSignalWord (⟨k0_dev2 d, k0_dev2_lt d⟩ : Dev nD) barS 1#32
  semWaitWord barS 2#32
  let v ← ldB x
  let _ ← ldB xM
  stB xM (k0_pay1 v)

/-- The value of a layer stored over a whole block (read first, as the text does). -/
def putB (M : Blk) (v : FVec F S256x256 .f32) : TProg (F := F) PUnit := do
  let _ ← ldB M
  stB M v

/-- What follows the device id. -/
def whole (x : Blk) (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32) (o : Blk) (d : Dev nD) : TProg (F := F) PUnit := do
  prologue x d
  let v ← layer (devs0 d) wi0 wo0
  putB xM (k0_pay16 v)
  let v ← layer (devs1 d) wi1 wo1
  putB xM (k0_pay16 v)
  let v ← layer (devs2 d) wi2 wo2
  putB o v

set_option maxRecDepth 65536 in
/-- The printed kernel, on the whole scratch buffers, is `whole` at the device it runs on. -/
theorem body_eq (x : Blk) (hx : x.IsWhole) (wi0 : Memref sig .tc .vmem S256x512 .f32) (h1 : wi0.IsWhole) (wo0 : Memref sig .tc .vmem S512x256 .f32) (h2 : wo0.IsWhole)
    (wi1 : Memref sig .tc .vmem S256x512 .f32) (h3 : wi1.IsWhole) (wo1 : Memref sig .tc .vmem S512x256 .f32) (h4 : wo1.IsWhole)
    (wi2 : Memref sig .tc .vmem S256x512 .f32) (h5 : wi2.IsWhole) (wo2 : Memref sig .tc .vmem S512x256 .f32) (h6 : wo2.IsWhole) (o : Blk) (ho : o.IsWhole) :
    cc0_body (F := F) x hx wi0 h1 wo0 h2 wi1 h3 wo1 h4 wi2 h5 wo2 h6 o ho
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _)
      cc0_scratch12 cc0_scratch13
    = Prog.op .deviceId fun d => whole x wi0 wo0 wi1 wo1 wi2 wo2 o d := rfl

end Cert.KernelIdeal.Ring

end
-- ==== Proof.RingKernelIdeal.lean ====
/-
# The ring's protocol

Four devices stand in a ring. In each layer every device makes six copies to its neighbours; this module says what
each copy carries (`sent`, `act`), which buffer it leaves from and lands in, and what the semaphores hand over:
a copy's departure gives the sender its buffer back, its arrival gives the receiver the landed block together with
the right to fill buffers of the sender that the receiver copies to next.
-/
module

public import proofs.«01_k».proof.Proof.LayersKernelIdeal
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.MemrefSat
public import Idealize.ShloMosaic.Lib.Tactic
public import Mathlib.Algebra.BigOperators.Intervals

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline library's part and the ring's -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR
abbrev 𝒱₀ : Variants := Variants.none

/-! ## The ring -/

set_option backward.proofsInPublic true in
/-- The left and the right neighbour. -/
def lf (c : Dev nD) : Dev nD := ⟨(c.val + 3) % 4, Nat.mod_lt _ (by decide)⟩
set_option backward.proofsInPublic true in
def rt (c : Dev nD) : Dev nD := ⟨(c.val + 1) % 4, Nat.mod_lt _ (by decide)⟩

theorem lf_rt (c : Dev nD) : lf (rt c) = c := by revert c; decide
theorem rt_lf (c : Dev nD) : rt (lf c) = c := by revert c; decide

/-- The device copy `k` of device `c` goes to, and the device the one arriving at `c` comes from. -/
def tgt : Fin 6 → Dev nD → Dev nD
  | 0 => rt | 1 => lf | 2 => rt | 3 => lf | 4 => lf | 5 => rt
def frm : Fin 6 → Dev nD → Dev nD
  | 0 => lf | 1 => rt | 2 => lf | 3 => rt | 4 => rt | 5 => lf

theorem frm_tgt (k : Fin 6) (c : Dev nD) : frm k (tgt k c) = c := by revert k c; decide
theorem tgt_frm (k : Fin 6) (c : Dev nD) : tgt k (frm k c) = c := by revert k c; decide

/-- The devices the printed text names. -/
theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)
theorem devs0_eq (c : Dev nD) : devs0 c = fun k => tgt k c := by
  funext k; fin_cases k
  · exact Fin.ext (k0_dev3_eq c)
  · exact Fin.ext (k0_dev4_eq c)
  · exact Fin.ext (k0_dev5_eq c)
  · exact Fin.ext (k0_dev6_eq c)
  · exact Fin.ext (k0_dev7_eq c)
  · exact Fin.ext (k0_dev8_eq c)
theorem devs1_eq (c : Dev nD) : devs1 c = fun k => tgt k c := by
  funext k; fin_cases k
  · exact Fin.ext (k0_dev9_eq c)
  · exact Fin.ext (k0_dev10_eq c)
  · exact Fin.ext (k0_dev11_eq c)
  · exact Fin.ext (k0_dev12_eq c)
  · exact Fin.ext (k0_dev13_eq c)
  · exact Fin.ext (k0_dev14_eq c)
theorem devs2_eq (c : Dev nD) : devs2 c = fun k => tgt k c := by
  funext k; fin_cases k
  · exact Fin.ext (k0_dev15_eq c)
  · exact Fin.ext (k0_dev16_eq c)
  · exact Fin.ext (k0_dev17_eq c)
  · exact Fin.ext (k0_dev18_eq c)
  · exact Fin.ext (k0_dev19_eq c)
  · exact Fin.ext (k0_dev20_eq c)

/-! ## Cells -/

abbrev barCell (c : Dev nD) : GSem nD τ sig := ((c : Thread nD τ), .reg barS)
abbrev sCell (c : Dev nD) (k : Fin 6) : GSem nD τ sig := ((c : Thread nD τ), .dma (sS k))
abbrev rCell (c : Dev nD) (k : Fin 6) : GSem nD τ sig := ((c : Thread nD τ), .dma (rS k))

theorem sS_inj : Function.Injective sS := by decide
theorem rS_inj : Function.Injective rS := by decide
theorem sS_ne_rS (k j : Fin 6) : sS k ≠ rS j := by revert k j; decide

/-- Which of six semaphores a location is. -/
def pick (f : Fin 6 → DmaSem sig) (s : SemLoc sig) : Option (Fin 6) := if h : ∃ k, s = .dma (f k) then some h.choose else none

theorem pick_self {f : Fin 6 → DmaSem sig} (hf : Function.Injective f) (k : Fin 6) : pick f (.dma (f k)) = some k := by
  have h : ∃ j, (SemLoc.dma (f k) : SemLoc sig) = .dma (f j) := ⟨k, rfl⟩
  unfold pick
  rw [dif_pos h, Option.some.injEq]
  exact hf (SemLoc.dma.inj h.choose_spec).symm
theorem pick_none {f : Fin 6 → DmaSem sig} {s : SemLoc sig} (h : ∀ k, s ≠ .dma (f k)) : pick f s = none :=
  dif_neg fun ⟨k, hk⟩ => h k hk
theorem pick_rS (k : Fin 6) : pick rS (.dma (rS k)) = some k := pick_self rS_inj k
theorem pick_sS (k : Fin 6) : pick sS (.dma (sS k)) = some k := pick_self sS_inj k
theorem pick_rS_s (k : Fin 6) : pick rS (.dma (sS k)) = none := pick_none fun j h => sS_ne_rS k j (SemLoc.dma.inj h)
theorem dma_ne_bar (s : DmaSem sig) : (SemLoc.dma s : SemLoc sig) ≠ .reg barS := fun h => by cases h
theorem pick_bar (f : Fin 6 → DmaSem sig) : pick f (.reg barS) = none := pick_none fun k h => by cases h

/-- The credit of one block. -/
abbrev N : ℕ := (xM : Blk).view.dmaCredit
theorem N_pos : 0 < N := View.dmaCredit_pos _ (by decide)

/-! ## Contents -/

/-- The blocks each device starts from: its rows of the activations, and of each layer its columns of the first
    weights and its rows of the second. -/
structure Ins (F : FTy → Type) [FloatOps F] where
  x : Dev nD → Vec F S256x256 .f32
  w1 : ℕ → Dev nD → Vec F S256x512 .f32
  w2 : ℕ → Dev nD → Vec F S512x256 .f32

section Values
variable (I : Ins F)

/-- Device `c`'s share of layer `l` applied to a block of the activations. -/
def part (l : ℕ) (c : Dev nD) (y : Vec F S256x256 .f32) : FVec F S256x256 .f32 := k0_pay2 y (I.w1 l c) (I.w2 l c)

/-- What copy `k` of device `c` carries in layer `l`, the devices' blocks of the activations being `X`. -/
def sent3 (l : ℕ) (X : Dev nD → Vec F S256x256 .f32) (c : Dev nD) : Vec F S256x256 .f32 := part I l c (X (lf (lf c)))
def sent (l : ℕ) (X : Dev nD → Vec F S256x256 .f32) : Fin 6 → Dev nD → Vec F S256x256 .f32
  | 0 => X
  | 1 => X
  | 2 => fun c => X (lf c)
  | 3 => sent3 I l X
  | 4 => fun c => k0_pay6 (part I l c (X (lf c))) (sent3 I l X (rt c))
  | 5 => fun c => part I l c (X (rt c))

/-- The sum device `c` ends layer `l` with. -/
def total (l : ℕ) (X : Dev nD → Vec F S256x256 .f32) (c : Dev nD) : FVec F S256x256 .f32 :=
  k0_pay15 (part I l c (X c)) (sent I l X 5 (lf c)) (sent I l X 4 (rt c))

/-- The devices' blocks of the activations before layer `l`. -/
def act : ℕ → Dev nD → Vec F S256x256 .f32
  | 0 => fun c => k0_pay1 (I.x c)
  | l + 1 => fun c => k0_pay16 (total I l (act l) c)

abbrev sentAt (l : ℕ) (k : Fin 6) (c : Dev nD) : Vec F S256x256 .f32 := sent I l (act I l) k c

end Values

/-! ## Where a copy leaves from and lands -/

def src : Fin 6 → Blk
  | 0 => xM | 1 => xM | 2 => aL | 3 => pD | 4 => st | 5 => pR
def dst : Fin 6 → Blk
  | 0 => aL | 1 => aR | 2 => aD | 3 => rA | 4 => fR | 5 => fL
/-- The share of the source a copy takes along: the copies 0, 1 and 2 leave from buffers still being read. -/
def qS : Fin 6 → PosShare TreeShare
  | 0 => fullShare.left | 1 => fullShare.right.left | 2 => fullShare.left | 3 => fullShare | 4 => fullShare | 5 => fullShare

abbrev has (c : Dev nD) (M : Blk) (v : Vec F S256x256 .f32) : sProp 𝕄 := owns (c : Thread nD τ) M fullShare v
/-- A buffer free to be filled. -/
def free (c : Dev nD) (M : Blk) : sProp 𝕄 := iprop(∃ v, has (F := F) c M v)
instance free_storable (c : Dev nD) (M : Blk) : BI.Storable (upEmb : UEmb _ 𝕄) (free (F := F) c M) := by unfold free; infer_instance

/-! ## What the semaphores hand over -/

/-- What the left neighbour of `n` needs to make its copies 0 and 2 of layer `l`. -/
def GL (n : Dev nD) (l : ℕ) : sProp 𝕄 :=
  iprop(free n aL ∗ free n aD ∗ reached ER (rCell n 0) l ∗ reached ER (rCell n 2) l)
/-- What the right neighbour of `n` needs to make its copies 1 and 3 of layer `l`. -/
def GR (n : Dev nD) (l : ℕ) : sProp 𝕄 :=
  iprop(free n aR ∗ free n rA ∗ reached ER (rCell n 1) l ∗ reached ER (rCell n 3) l)

/-- What copy `k` of layer `l` from device `n` brings besides its block: with the copies 0 and 1 the landing places of
    this layer's sums, with the copies 3 and 5 those of the next layer's activations. -/
def ext (l : ℕ) (k : Fin 6) (n : Dev nD) : sProp 𝕄 := match k with
  | 0 => iprop(free n fR ∗ reached ER (rCell n 4) l)
  | 1 => iprop(free n fL ∗ reached ER (rCell n 5) l)
  | 2 => iprop(emp)
  | 3 => if l + 1 < 3 then GL n (l + 1) else iprop(emp)
  | 4 => iprop(emp)
  | 5 => if l + 1 < 3 then GR n (l + 1) else iprop(emp)

instance GL_storable (n : Dev nD) (l : ℕ) : BI.Storable (upEmb : UEmb _ 𝕄) (GL (F := F) n l) := by unfold GL; infer_instance
instance GR_storable (n : Dev nD) (l : ℕ) : BI.Storable (upEmb : UEmb _ 𝕄) (GR (F := F) n l) := by unfold GR; infer_instance
instance ext_storable (l : ℕ) (k : Fin 6) (n : Dev nD) : BI.Storable (upEmb : UEmb _ 𝕄) (ext (F := F) l k n) := by
  unfold ext; (repeat' split) <;> infer_instance

section Schedule
variable (I : Ins F)

def sPay (l : ℕ) (k : Fin 6) (c : Dev nD) : sProp 𝕄 := owns (c : Thread nD τ) (src k) (qS k) (sentAt I l k c)
def rPay (l : ℕ) (k : Fin 6) (c : Dev nD) : sProp 𝕄 := iprop(has c (dst k) (sentAt I l k (frm k c)) ∗ ext l k (frm k c))

instance sPay_storable (l : ℕ) (k : Fin 6) (c : Dev nD) : BI.Storable (upEmb : UEmb _ 𝕄) (sPay I l k c) := by unfold sPay; infer_instance
instance rPay_storable (l : ℕ) (k : Fin 6) (c : Dev nD) : BI.Storable (upEmb : UEmb _ 𝕄) (rPay I l k c) := by unfold rPay; infer_instance

abbrev IsBar (g : GSem nD τ sig) : Prop := g.1.2 = .tc ∧ g.2 = .reg barS
abbrev IsXfer (g : GSem nD τ sig) : Prop := g.1.2 = .tc ∧ ((pick rS g.2).isSome = true ∨ (pick sS g.2).isSome = true)

/-- A barrier cell has one round, of one unit from each neighbour: the right one's (`true`) and the left one's
    (`false`). A copy's two cells have a round per layer, of the block's credit. -/
def ringRd : Rounds.Schedule (GSem nD τ sig) Bool 𝕄 where
  duties g r := if r = 0 ∧ IsBar g then Finset.univ else if r < 3 ∧ IsXfer g then {false} else ∅
  unitless _ := False
  amount g _ _ := if g.2 = .reg barS then 1 else N
  payload g r d :=
    if g.2 = .reg barS then (if d then GL (rt g.1.1) 0 else GR (lf g.1.1) 0)
    else match pick rS g.2 with
      | some k => rPay I r k g.1.1
      | none => match pick sS g.2 with
        | some k => sPay I r k g.1.1
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd I).payload g r d) := by
  show BI.Storable upEmb (if g.2 = .reg barS then (if d then GL (F := F) (rt g.1.1) 0 else GR (lf g.1.1) 0)
    else match pick rS g.2 with
      | some k => rPay I r k g.1.1
      | none => match pick sS g.2 with
        | some k => sPay I r k g.1.1
        | none => iprop(emp))
  (repeat' split) <;> infer_instance

variable (c : Dev nD)

theorem duties_bar : (ringRd I).duties (barCell c) 0 = Finset.univ := by dsimp only [ringRd]; exact if_pos ⟨rfl, rfl, rfl⟩
theorem duties_s {l : ℕ} (hl : l < 3) (k : Fin 6) : (ringRd I).duties (sCell c k) l = {false} := by
  dsimp only [ringRd]
  rw [if_neg (fun h => dma_ne_bar _ h.2.2), if_pos ⟨hl, rfl, .inr (by rw [pick_sS]; rfl)⟩]
theorem duties_r {l : ℕ} (hl : l < 3) (k : Fin 6) : (ringRd I).duties (rCell c k) l = {false} := by
  dsimp only [ringRd]
  rw [if_neg (fun h => dma_ne_bar _ h.2.2), if_pos ⟨hl, rfl, .inl (by rw [pick_rS]; rfl)⟩]
theorem duties_later (g : GSem nD τ sig) : ∀ r, 3 ≤ r → (ringRd I).duties g r = ∅ :=
  fun r hr => by dsimp only [ringRd]; rw [if_neg fun h => by omega, if_neg fun h => by omega]
theorem duties_bar_later : ∀ r, 1 ≤ r → (ringRd I).duties (barCell c) r = ∅ :=
  fun r hr => by
    dsimp only [ringRd]
    rw [if_neg fun h => by omega, if_neg fun h => by
      rcases h.2.2 with h | h
      · rw [pick_bar] at h; cases h
      · rw [pick_bar] at h; cases h]

theorem amount_bar (d : Bool) : (ringRd I).amount (barCell c) 0 d = 1 := by dsimp only [ringRd]; exact if_pos rfl
theorem amount_s (l : ℕ) (k : Fin 6) (d : Bool) : (ringRd I).amount (sCell c k) l d = N := by dsimp only [ringRd]; exact if_neg (dma_ne_bar _)
theorem amount_r (l : ℕ) (k : Fin 6) (d : Bool) : (ringRd I).amount (rCell c k) l d = N := by dsimp only [ringRd]; exact if_neg (dma_ne_bar _)

theorem expect_bar : (ringRd I).expect (barCell c) 0 = 2 := by
  unfold Schedule.expect Schedule.amountOf
  rw [duties_bar, Finset.sum_congr rfl fun d _ => amount_bar I c d, Finset.sum_const, Finset.card_univ, Fintype.card_bool, smul_eq_mul]
theorem expect_s {l : ℕ} (hl : l < 3) (k : Fin 6) : (ringRd I).expect (sCell c k) l = N := by
  unfold Schedule.expect Schedule.amountOf; rw [duties_s I c hl, Finset.sum_singleton, amount_s]
theorem expect_r {l : ℕ} (hl : l < 3) (k : Fin 6) : (ringRd I).expect (rCell c k) l = N := by
  unfold Schedule.expect Schedule.amountOf; rw [duties_r I c hl, Finset.sum_singleton, amount_r]

theorem payload_bar_true : (ringRd I).payload (barCell c) 0 true = GL (rt c) 0 := by dsimp only [ringRd]; rw [if_pos rfl, if_pos rfl]
theorem payload_bar_false : (ringRd I).payload (barCell c) 0 false = GR (lf c) 0 := by
  dsimp only [ringRd]; rw [if_pos rfl]; exact if_neg Bool.false_ne_true
theorem payload_s (l : ℕ) (k : Fin 6) (d : Bool) : (ringRd I).payload (sCell c k) l d = sPay I l k c := by
  dsimp only [ringRd]; rw [if_neg (dma_ne_bar _), pick_rS_s, pick_sS]
theorem payload_r (l : ℕ) (k : Fin 6) (d : Bool) : (ringRd I).payload (rCell c k) l d = rPay I l k c := by
  dsimp only [ringRd]; rw [if_neg (dma_ne_bar _), pick_rS]

theorem rest_bar : bigSep ((ringRd I).duties (barCell c) 0 \ ∅) (fun d => (ringRd I).payload (barCell c) 0 d) = iprop(GR (lf c) 0 ∗ GL (rt c) 0) := by
  rw [Finset.sdiff_empty, duties_bar, bigSep_univ_eq_bigSepL [false, true] (by decide) (by decide), bigSepL_cons_cons, bigSepL_singleton,
    payload_bar_false, payload_bar_true]
  rfl
theorem rest_s {l : ℕ} (hl : l < 3) (k : Fin 6) : bigSep ((ringRd I).duties (sCell c k) l \ ∅) (fun d => (ringRd I).payload (sCell c k) l d) = sPay I l k c := by
  rw [Finset.sdiff_empty, duties_s I c hl, bigSep_singleton, payload_s]
theorem rest_r {l : ℕ} (hl : l < 3) (k : Fin 6) : bigSep ((ringRd I).duties (rCell c k) l \ ∅) (fun d => (ringRd I).payload (rCell c k) l d) = rPay I l k c := by
  rw [Finset.sdiff_empty, duties_r I c hl, bigSep_singleton, payload_r]

end Schedule

/-! ## What is owed, and the levels -/

/-- Copy `k` of layer `l` owes its target the block's credit. -/
def due (c : Dev nD) (l : ℕ) (k : Fin 6) : CellTallies nD τ sig ℕ := tallyAt (rCell (tgt k c) k) l N
set_option backward.proofsInPublic true in
/-- The copies counted through: the one after `j` others. -/
def dueN (c : Dev nD) (j : ℕ) : CellTallies nD τ sig ℕ := due c (j / 6) ⟨j % 6, Nat.mod_lt _ (by decide)⟩
/-- What device `c` still owes after its first `j` copies. -/
def Orem (c : Dev nD) (j : ℕ) : CellTallies nD τ sig ℕ := ∑ i ∈ Finset.Ico j 18, dueN c i

theorem dueN_eq (c : Dev nD) (l : ℕ) (k : Fin 6) : dueN c (6 * l + k) = due c l k := by
  unfold dueN
  have h1 : (6 * l + k.val) / 6 = l := by have := k.isLt; omega
  have h2 : (⟨(6 * l + k.val) % 6, Nat.mod_lt _ (by decide)⟩ : Fin 6) = k := Fin.ext (by have := k.isLt; show (6 * l + k.val) % 6 = k.val; omega)
  rw [h1, h2]
theorem Orem_step (c : Dev nD) {l : ℕ} (hl : l < 3) (k : Fin 6) : Orem c (6 * l + k) = Orem c (6 * l + k + 1) + due c l k := by
  unfold Orem
  rw [Finset.sum_eq_sum_Ico_succ_bot (by have := k.isLt; omega), dueN_eq, add_comm]
theorem Orem_end (c : Dev nD) : Orem c 18 = 0 := by unfold Orem; rw [Finset.Ico_self, Finset.sum_empty]

/-- With the first signal made, and with none made: a unit to each neighbour's barrier cell besides. -/
def O₁ (c : Dev nD) : CellTallies nD τ sig ℕ := Orem c 0 + tallyAt (barCell (rt c)) 0 1
def O₀ (c : Dev nD) : CellTallies nD τ sig ℕ := O₁ c + tallyAt (barCell (lf c)) 0 1

def L (g : GSem nD τ sig) : Finset ℕ := if g.1.2 = .tc then Finset.range 3 else ∅
/-- Barrier cells come first, then the arrivals in the order of the copies; nothing waits behind the rest. -/
def lv (g : GSem nD τ sig) (i : ℕ) : ℕ := if g.2 = .reg barS then 1 else match pick rS g.2 with
  | some k => 2 + 6 * i + k.val
  | none => 0

theorem L_of_ne (g : GSem nD τ sig) (h : g.1.2 ≠ .tc) : L g = ∅ := if_neg h
theorem L_tc (c : Dev nD) (sm : SemLoc sig) : L ((c : Thread nD τ), sm) = Finset.range 3 := if_pos rfl
theorem lv_bar (c : Dev nD) (i : ℕ) : lv (barCell c) i = 1 := if_pos rfl
theorem lv_r (c : Dev nD) (k : Fin 6) (i : ℕ) : lv (rCell c k) i = 2 + 6 * i + k.val := by
  dsimp only [lv]; rw [if_neg (dma_ne_bar _), pick_rS]
theorem lv_of_none (c : Dev nD) (s : DmaSem sig) (h : ∀ k, s ≠ rS k) (i : ℕ) : lv ((c : Thread nD τ), .dma s) i = 0 := by
  dsimp only [lv]; rw [if_neg (dma_ne_bar _), pick_none fun k hk => h k (SemLoc.dma.inj hk)]
theorem lv_s (c : Dev nD) (k : Fin 6) (i : ℕ) : lv (sCell c k) i = 0 := lv_of_none c _ (sS_ne_rS k) i

theorem dueN_pos {c : Dev nD} {j : ℕ} (hj : j < 18) {g : GSem nD τ sig} {i : ℕ} (h : 0 < dueN c j g i) : i ∈ L g ∧ lv g i = 2 + j := by
  unfold dueN due at h
  obtain ⟨rfl, rfl⟩ := Pipeline.tallyAt_pos h
  refine ⟨?_, ?_⟩
  · rw [L_tc, Finset.mem_range]; omega
  · rw [lv_r]; show 2 + 6 * (j / 6) + j % 6 = 2 + j; omega

theorem Orem_pos {c : Dev nD} {j : ℕ} {g : GSem nD τ sig} {i : ℕ} (h : 0 < Orem c j g i) : i ∈ L g ∧ 2 + j ≤ lv g i := by
  unfold Orem at h
  obtain ⟨r, hr, h'⟩ := Pipeline.sum_pos_exists h
  rw [Finset.mem_Ico] at hr
  have := dueN_pos hr.2 h'
  exact ⟨this.1, by omega⟩

/-- A device waits below what it still owes. -/
theorem mayWait_rem (c : Dev nD) (s : SemLoc sig) (i j : ℕ) (hi : i < 3) (h : lv ((c : Thread nD τ), s) i < 2 + j) :
    (levAts L lv : sProp 𝕄) ⊢ MayWait (c : Thread nD τ) s i (Orem c j) :=
  Pipeline.mayWait_of_levAts (by rw [L_tc]; exact Finset.mem_range.mpr hi) fun g u hg => ⟨(Orem_pos hg).1, by have := (Orem_pos hg).2; omega⟩

/-- At launch, before anything is signalled, it may wait on the staging semaphores. -/
theorem mayWait_start (c : Dev nD) (s : DmaSem sig) (hs : ∀ k, s ≠ rS k) :
    (levAts L lv : sProp 𝕄) ⊢ MayWait (c : Thread nD τ) (.dma s) 0 (O₀ c) :=
  Pipeline.mayWait_of_levAts (by rw [L_tc]; exact Finset.mem_range.mpr (by decide)) fun g u hg => by
    rw [lv_of_none c s hs]
    unfold O₀ O₁ at hg
    rcases Pipeline.add_pos_cases hg with hg | hg
    · rcases Pipeline.add_pos_cases hg with hg | hg
      · exact ⟨(Orem_pos hg).1, by have := (Orem_pos hg).2; omega⟩
      · obtain ⟨rfl, rfl⟩ := Pipeline.tallyAt_pos hg
        exact ⟨by rw [L_tc]; exact Finset.mem_range.mpr (by decide), by rw [lv_bar]; decide⟩
    · obtain ⟨rfl, rfl⟩ := Pipeline.tallyAt_pos hg
      exact ⟨by rw [L_tc]; exact Finset.mem_range.mpr (by decide), by rw [lv_bar]; decide⟩

end Cert.KernelIdeal.Ring

end
-- ==== Proof.StepsKernelIdeal.lean ====
/-
# The rules the layer is run by

One rule per kind of operation of a layer: a whole load, a whole store, a copy to a neighbour, the wait for its
departure and the wait for an arrival. Each is stated for a copy `k` of a layer `l`, over the protocol of the ring.
-/
module

public import proofs.«01_k».proof.Proof.RingKernelIdeal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Every cell's invariant -/

/-- A device's thirteen cells: the barrier, and a departure (`false`) and an arrival (`true`) of each copy. -/
abbrev CK : Type := Option (Bool × Fin 6)
def csem : CK → SemLoc sig
  | none => .reg barS
  | some (false, k) => .dma (sS k)
  | some (true, k) => .dma (rS k)
abbrev kcell (ck : Dev nD × CK) : GSem nD τ sig := ((ck.1 : Thread nD τ), csem ck.2)

variable (I : Ins F) (K : Dev nD × CK → ℕ)

/-- What may always be looked up: the invariants of all cells, and the levels. -/
def ctx : sProp 𝕄 := iprop(bigSep Finset.univ (fun ck => cellInv ER (ringRd I) (K ck) (kcell ck)) ∗ levAts L lv)

instance ctx_persistent : BI.Persistent (ctx I K) := by unfold ctx; infer_instance

theorem inv_at (ck : Dev nD × CK) :
    (bigSep Finset.univ fun ck : Dev nD × CK => cellInv ER (ringRd I) (K ck) (kcell ck)) ⊢ cellInv ER (ringRd I) (K ck) (kcell ck) :=
  bigSep_elim (Finset.mem_univ ck)
theorem ctx_inv (ck : Dev nD × CK) : ctx I K ⊢ cellInv ER (ringRd I) (K ck) (kcell ck) := by
  unfold ctx
  iintro ⟨H, -⟩
  iapply (inv_at I K ck); iexact H
theorem ctx_lev : ctx I K ⊢ (levAts L lv : sProp 𝕄) := by
  unfold ctx
  iintro ⟨-, H⟩
  iexact H
theorem ctx_s (c : Dev nD) (k : Fin 6) : ctx I K ⊢ cellInv ER (ringRd I) (K (c, some (false, k))) (sCell c k) := ctx_inv I K (c, some (false, k))
theorem ctx_r (c : Dev nD) (k : Fin 6) : ctx I K ⊢ cellInv ER (ringRd I) (K (c, some (true, k))) (rCell c k) := ctx_inv I K (c, some (true, k))
theorem ctx_bar (c : Dev nD) : ctx I K ⊢ cellInv ER (ringRd I) (K (c, none)) (barCell c) := ctx_inv I K (c, none)

/-! ## The stages of one copy, seen from one device -/

/-- What device `c` owes, `j` copies made. -/
def ow (c : Dev nD) (j : ℕ) : sProp 𝕄 := iprop(∃ W, owes (c : Thread nD τ) (Orem c j) W)

/-- Before copy `k` of layer `l` leaves: the positions at both cells, the right to make the copy, the credit of the
    copy that will arrive; -/
def slot (c : Dev nD) (l : ℕ) (k : Fin 6) : sProp 𝕄 :=
  iprop(atPos ER (sCell c k) l ∅ 0 ∗ reached ER (sCell c k) l ∗ atPos ER (rCell c k) l ∅ 0
    ∗ dutyTok ER (sCell c k) l false ∗ dutyTok ER (rCell (tgt k c) k) l false ∗ cred (tallyAt (rCell c k) l N))
/-- on its way; -/
def away (c : Dev nD) (l : ℕ) (k : Fin 6) : sProp 𝕄 :=
  iprop(atPos ER (sCell c k) l ∅ 0 ∗ cred (tallyAt (sCell c k) l N) ∗ atPos ER (rCell c k) l ∅ 0 ∗ cred (tallyAt (rCell c k) l N))
/-- left, the one from the neighbour not yet seen; -/
def gone (c : Dev nD) (l : ℕ) (k : Fin 6) : sProp 𝕄 :=
  iprop(atPos ER (sCell c k) (l + 1) ∅ 0 ∗ reached ER (sCell c k) (l + 1) ∗ atPos ER (rCell c k) l ∅ 0 ∗ cred (tallyAt (rCell c k) l N))
/-- both seen. -/
def rest (c : Dev nD) (l : ℕ) (k : Fin 6) : sProp 𝕄 :=
  iprop(atPos ER (sCell c k) l ∅ 0 ∗ reached ER (sCell c k) l ∗ atPos ER (rCell c k) l ∅ 0)
/-- What layer `l`'s copy `k` needs besides `rest`. -/
def toks (c : Dev nD) (l : ℕ) (k : Fin 6) : sProp 𝕄 :=
  iprop(dutyTok ER (sCell c k) l false ∗ dutyTok ER (rCell (tgt k c) k) l false ∗ cred (tallyAt (rCell c k) l N))

theorem slot_of (c : Dev nD) (l : ℕ) (k : Fin 6) : iprop(rest (F := F) c l k ∗ toks c l k) ⊢ slot c l k := by
  unfold rest toks slot
  iintro ⟨⟨H1, H2, H3⟩, H4, H5, H6⟩
  isplitl [H1]; · iexact H1
  isplitl [H2]; · iexact H2
  isplitl [H3]; · iexact H3
  isplitl [H4]; · iexact H4
  isplitl [H5]; · iexact H5
  iexact H6

/-! ## The rules -/

section Rules

/-- A load of a whole memref. -/
theorem wp_ld (c : Dev nD) {s : Shape} (M : Memref sig .tc .vmem s .f32) (q : PosShare TreeShare) (v : s.Idx → Elt F .f32) {off : Fin s.rank → ℕ}
    {inb : ∀ a, off a + s.size a ≤ s.size a} {h : M.view.LoadsAt (Rect.unit off s.size inb).toLoadRect}
    {α : Type} {Q : α → sProp 𝕄} {k : (s.Idx → Elt F .f32) → TProg (F := F) α} :
    owns (c : Thread nD τ) M q v
      ⊢ iprop((owns (c : Thread nD τ) M q v -∗ wp frame (wpE (defs₀ (F := F)) 𝒱₀ (c : Thread nD τ) none) Set.univ (k v) Q)
        -∗ wp frame (wpE (defs₀ (F := F)) 𝒱₀ (c : Thread nD τ) none) Set.univ (.op (.load M (Rect.unit off s.size inb).toLoadRect h) k) Q) := by
  unfold owns
  iintro ⟨%f, %hf, H⟩ Hk
  subst hf
  iapply (wp_load 𝒱₀ (c : Thread nD τ) none Set.univ (m := M) (View.setOn_subset_set _ _)) $$ H
  iintro H
  rw [View.readAt_full]
  iapply Hk
  iexists f
  isplitr
  · ipureintro; rfl
  iexact H

/-- A store over a whole memref. -/
theorem wp_sto (c : Dev nD) {s : Shape} (M : Memref sig .tc .vmem s .f32) (v : s.Idx → Elt F .f32) {off : Fin s.rank → ℕ}
    {inb : ∀ a, off a + s.size a ≤ s.size a} {w : s.Idx → Elt F .f32} {h : (M.access (Rect.unit off s.size inb)).Stores Finset.univ}
    {hm : (Finset.univ : Finset (Rect.unit off s.size inb).shape.Idx) = Finset.univ ∨ ∀ a, (Rect.unit off s.size inb).stride a = 1}
    {α : Type} {Q : α → sProp 𝕄} {k : PUnit → TProg (F := F) α} :
    owns (c : Thread nD τ) M fullShare v
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M (Rect.unit off s.size inb) w Finset.univ h hm) k) Q) := by
  unfold owns
  iintro ⟨%f, %hf, H⟩ Hk
  iapply (wp_store 𝒱₀ (c : Thread nD τ) none Set.univ (m := M) (r := Rect.unit off s.size inb) (Mk := Finset.univ) (S := M.view.set) (View.set_slice_subset _ _)) $$ H
  iintro H
  iapply Hk
  iexists _
  isplitr
  · ipureintro; exact View.read_writes_full M.view f inb w []
  iexact H

theorem routes_ok (c d : Dev nD) : τ.routes (c : Thread nD τ) (d : Thread nD τ) = true := by routes

theorem dst_amount (k : Fin 6) : (dst k).view.amount (.dma (rS k)) = N := by fin_cases k <;> rfl

/-- The library's rule for an addressed copy, at a pair of the ring's cells. -/
theorem wp_raw (c n : Dev nD) (l : ℕ) (k : Fin 6) {M M' : Blk} {q : PosShare TreeShare} (κ₁ κ₂ : ℕ) (N' : ℕ) (O₀ O : CellTallies nD τ sig ℕ) (W : Waits sig ℕ) (X : sProp 𝕄)
    {fs : Buf (Elt F) (M.view.loc (c : Thread nD τ))} {fd : Buf (Elt F) (M'.view.loc (n : Thread nD τ))}
    (hd₁ : false ∈ (ringRd I).duties (sCell c k) l) (hd₂ : false ∈ (ringRd I).duties (rCell n k) l)
    (hN : M'.view.amount (.dma (rS k)) = N') (hk₁ : (ringRd I).amount (sCell c k) l false = N') (hk₂ : (ringRd I).amount (rCell n k) l false = N')
    (hO : O₀ = O + tallyAt (rCell n k) l N')
    (hp₁ : (M.view.loc (c : Thread nD τ) ↦[M.view.set]{q} fs) ⊢ (ringRd I).payload (sCell c k) l false)
    (hp₂ : iprop((M'.view.loc (n : Thread nD τ) ↦[M'.view.set]{fullShare} (M'.view.write (Elt F) fd (M.view.read (Elt F) fs) Finset.univ)) ∗ X)
      ⊢ (ringRd I).payload (rCell n k) l false)
    {hsc : (M' : Memref sig (Dev.tc n : Thread nD τ).2.kind .vmem S256x256 .f32).view.ref.isScScratch = false}
    {hsrc : M.view.WordExact} {hdst : M'.view.WordExact} {hsem : DmaTarget.Typed (p := .tc) .vmem (.dma (rS k)) (.remote (Dev.tc n : Thread nD τ) M' (.dma (sS k)) hsc)}
    {α : Type} {Q : α → sProp 𝕄} {kk : PUnit → TProg (F := F) α} :
    iprop(cellInv ER (ringRd I) κ₁ (sCell c k) ∗ cellInv ER (ringRd I) κ₂ (rCell n k)
        ∗ (M.view.loc (c : Thread nD τ) ↦[M.view.set]{q} fs)
        ∗ ((M'.view.loc (n : Thread nD τ) ↦[M'.view.set]{fullShare} fd) ∗ X)
        ∗ owes (c : Thread nD τ) O₀ W
        ∗ dutyTok ER (sCell c k) l false ∗ reached ER (sCell c k) l
        ∗ dutyTok ER (rCell n k) l false ∗ reached ER (rCell n k) l)
      ⊢ iprop(((cred (tallyAt (sCell c k) l N') ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma M (.remote (Dev.tc n : Thread nD τ) M' (.dma (sS k)) hsc) (.dma (rS k)) hsrc hdst hsem) kk) Q) :=
    Rounds.wp_send_pointsTo_with 𝒱₀ ER (ringRd I) (c : Thread nD τ) none
      (r₁ := l) (r₂ := l) (d₁ := false) (d₂ := false) (fs := fs) (fd := fd) (F := X) (q := q)
      hd₁ hd₂ l l N' hN hk₁ hk₂ O hO (W := W)
      hp₁ hp₂ (hr := routes_ok c n)

/-- Copy `k` of layer `l` leaves, to a landing place the receiver lent. -/
theorem wp_go (c n : Dev nD) {l : ℕ} (hl : l < 3) (k : Fin 6) (hn : n = tgt k c) {M M' : Blk} (hM : M = src k) (hM' : M' = dst k)
    {q : PosShare TreeShare} (hq : q = qS k) {v : Vec F S256x256 .f32} (hv : v = sentAt I l k c) {j j' : ℕ} (hj : j = 6 * l + k.val) (hj' : j' = j + 1)
    {hsc : (M' : Memref sig (Dev.tc n : Thread nD τ).2.kind .vmem S256x256 .f32).view.ref.isScScratch = false}
    {hsrc : M.view.WordExact} {hdst : M'.view.WordExact} {hsem : DmaTarget.Typed (p := .tc) .vmem (.dma (rS k)) (.remote (Dev.tc n : Thread nD τ) M' (.dma (sS k)) hsc)}
    {α : Type} {Q : α → sProp 𝕄} {kk : PUnit → TProg (F := F) α} :
    iprop(ctx I K ∗ slot c l k ∗ owns (c : Thread nD τ) M q v ∗ free (tgt k c) M' ∗ reached ER (rCell (tgt k c) k) l ∗ ext l k c ∗ ow c j)
      ⊢ iprop(((away c l k ∗ ow c j') -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma M (.remote (Dev.tc n : Thread nD τ) M' (.dma (sS k)) hsc) (.dma (rS k)) hsrc hdst hsem) kk) Q) := by
  subst hn hM hM' hq hv hj hj'
  unfold slot away ow free
  iintro ⟨#Hctx, ⟨Has, #Hrs, Har, Hts, Htr, Hcr⟩, Hsrc, ⟨%v', Hdst⟩, #Hrr, Hext, ⟨%W, HO⟩⟩ Hk
  unfold has owns
  icases Hsrc with ⟨%fs, %hfs, Hsrc⟩
  icases Hdst with ⟨%fd, %hfd, Hdst⟩
  ihave #HIs := (ctx_s I K c k) $$ Hctx
  ihave #HIr := (ctx_r I K (tgt k c) k) $$ Hctx
  have hd₁ : false ∈ (ringRd I).duties (sCell c k) l := by rw [duties_s I c hl]; exact Finset.mem_singleton_self _
  have hd₂ : false ∈ (ringRd I).duties (rCell (tgt k c) k) l := by rw [duties_r I _ hl]; exact Finset.mem_singleton_self _
  have hN := dst_amount k
  have hp₁ : ((src k).view.loc (c : Thread nD τ) ↦[(src k).view.set]{qS k} fs) ⊢ (ringRd I).payload (sCell c k) l false := by
    rw [payload_s]; unfold sPay; rw [← hfs]; exact owns_intro (c : Thread nD τ) _ _ _
  have hp₂ : iprop(((dst k).view.loc (tgt k c : Thread nD τ) ↦[(dst k).view.set]{fullShare} ((dst k).view.write (Elt F) fd ((src k).view.read (Elt F) fs) Finset.univ)) ∗ ext l k c)
      ⊢ (ringRd I).payload (rCell (tgt k c) k) l false := by
    rw [payload_r]; unfold rPay; rw [frm_tgt]
    refine sep_mono_left ?_
    unfold has owns
    iintro H
    iexists ((dst k).view.write (Elt F) fd ((src k).view.read (Elt F) fs) Finset.univ)
    isplitr
    · ipureintro; exact (View.read_write_univ _ _).trans hfs
    iexact H
  iapply (wp_raw I c (tgt k c) l k (K (c, some (false, k))) (K (tgt k c, some (true, k))) N (Orem c (6 * l + k)) (Orem c (6 * l + k + 1)) W (ext l k c)
    hd₁ hd₂ hN (amount_s I c l k false) (amount_r I (tgt k c) l k false) (Orem_step c hl k) hp₁ hp₂) $$ [Hsrc Hdst Hext HO Hts Htr]
  · isplitr; · iexact HIs
    isplitr; · iexact HIr
    isplitl [Hsrc]; · iexact Hsrc
    isplitl [Hdst Hext]
    · isplitl [Hdst]; · iexact Hdst
      iexact Hext
    isplitl [HO]; · iexact HO
    isplitl [Hts]; · iexact Hts
    isplitr; · iexact Hrs
    isplitl [Htr]; · iexact Htr
    iexact Hrr
  iintro ⟨Hcs, HO⟩
  iapply Hk
  isplitr [HO]
  · isplitl [Has]; · iexact Has
    isplitl [Hcs]; · iexact Hcs
    isplitl [Har]; · iexact Har
    iexact Hcr
  iexists W; iexact HO

/-- Copy `k` of layer `l` has left: its buffer is back. -/
theorem wp_left (c : Dev nD) {l : ℕ} (hl : l < 3) (k : Fin 6) {M M' : Blk} (B : Blk) (hB : B = src k) (hN : M'.view.dmaCredit = N)
    {q : PosShare TreeShare} (hq : q = qS k) {v : Vec F S256x256 .f32} (hv : v = sentAt I l k c) {j : ℕ}
    {h : M.view.WordExact} {h' : M'.view.WordExact} {α : Type} {Q : α → sProp 𝕄} {kk : PUnit → TProg (F := F) α} :
    iprop(ctx I K ∗ away c l k ∗ ow c j)
      ⊢ iprop(((gone c l k ∗ owns (c : Thread nD τ) B q v ∗ ow c j) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sS k) M M' h h') kk) Q) := by
  subst hB hq hv
  unfold away gone ow
  iintro ⟨#Hctx, ⟨Has, Hcs, Har, Hcr⟩, ⟨%W, HO⟩⟩ Hk
  ihave #HIs := (ctx_s I K c k) $$ Hctx
  ihave #Hlev := (ctx_lev I K) $$ Hctx
  have hw : ∀ X : PUnit → sProp 𝕄, wpE' (defs₀ (F := F)) 𝒱₀ (c : Thread nD τ) none ∅ Set.univ (.waitDma2 (sS k) M M' h h') X
      = waitSpec (c : Thread nD τ) Set.univ (.dma (sS k)) N X := by
    rw [← hN]; exact wpE_waitDma2_eq 𝒱₀ (c : Thread nD τ) none Set.univ
  have hmw : (levAts L lv : sProp 𝕄) ⊢ MayWait (c : Thread nD τ) (.dma (sS k)) l (Orem c j) :=
    mayWait_rem c (.dma (sS k)) l j hl (by rw [lv_s]; omega)
  have hx : 0 + N = (ringRd I).expect (sCell c k) l := by rw [expect_s I c hl, Nat.zero_add]
  iapply (Rounds.wp_wait_rest_token 𝒱₀ ER (ringRd I) (c : Thread nD τ) none (κ := K (c, some (false, k))) (sm := .dma (sS k)) (k' := N)
      hw (Set.mem_univ _) l (O := Orem c j) (W := W) (R := l) (m := 0) (T := ∅) hx) $$ [Has Hcs HO]
  · isplitr; · iexact HIs
    isplitl [Hcs]; · iexact Hcs
    isplitl [HO]; · iexact HO
    isplitr
    · iapply hmw; iexact Hlev
    iexact Has
  iintro ⟨HO, Has, #Hrs, Hpay⟩
  ihave Hp := (Entails.of_eq (rest_s I c hl k)) $$ Hpay
  unfold sPay
  iapply Hk
  isplitl [Has Har Hcr]
  · isplitl [Has]; · iexact Has
    isplitr; · iexact Hrs
    isplitl [Har]; · iexact Har
    iexact Hcr
  isplitl [Hp]; · iexact Hp
  iexists _; iexact HO

/-- The neighbour's copy `k` of layer `l` is here: the landed block, and what came with it. -/
theorem wp_came (c : Dev nD) {l : ℕ} (hl : l < 3) (k : Fin 6) {M M' : Blk} (B : Blk) (hB : B = dst k) (hN : M'.view.dmaCredit = N)
    (n : Dev nD) (hn : n = frm k c) {v : Vec F S256x256 .f32} (hv : v = sentAt I l k n) {j : ℕ} (hj : 6 * l + k.val < j)
    {h : M.view.WordExact} {h' : M'.view.WordExact} {α : Type} {Q : α → sProp 𝕄} {kk : PUnit → TProg (F := F) α} :
    iprop(ctx I K ∗ gone c l k ∗ ow c j)
      ⊢ iprop(((rest c (l + 1) k ∗ reached ER (rCell c k) (l + 1) ∗ has c B v ∗ ext l k n ∗ ow c j)
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (rS k) M M' h h') kk) Q) := by
  subst hB hv hn
  unfold gone rest ow
  iintro ⟨#Hctx, ⟨Has, #Hrs, Har, Hcr⟩, ⟨%W, HO⟩⟩ Hk
  ihave #HIr := (ctx_r I K c k) $$ Hctx
  ihave #Hlev := (ctx_lev I K) $$ Hctx
  have hw : ∀ X : PUnit → sProp 𝕄, wpE' (defs₀ (F := F)) 𝒱₀ (c : Thread nD τ) none ∅ Set.univ (.waitDma2 (rS k) M M' h h') X
      = waitSpec (c : Thread nD τ) Set.univ (.dma (rS k)) N X := by
    rw [← hN]; exact wpE_waitDma2_eq 𝒱₀ (c : Thread nD τ) none Set.univ
  have hmw : (levAts L lv : sProp 𝕄) ⊢ MayWait (c : Thread nD τ) (.dma (rS k)) l (Orem c j) :=
    mayWait_rem c (.dma (rS k)) l j hl (by rw [lv_r]; omega)
  have hx : 0 + N = (ringRd I).expect (rCell c k) l := by rw [expect_r I c hl, Nat.zero_add]
  iapply (Rounds.wp_wait_rest_token 𝒱₀ ER (ringRd I) (c : Thread nD τ) none (κ := K (c, some (true, k))) (sm := .dma (rS k)) (k' := N)
      hw (Set.mem_univ _) l (O := Orem c j) (W := W) (R := l) (m := 0) (T := ∅) hx) $$ [Har Hcr HO]
  · isplitr; · iexact HIr
    isplitl [Hcr]; · iexact Hcr
    isplitl [HO]; · iexact HO
    isplitr
    · iapply hmw; iexact Hlev
    iexact Har
  iintro ⟨HO, Har, #Hrr, Hpay⟩
  ihave Hp := (Entails.of_eq (rest_r I c hl k)) $$ Hpay
  unfold rPay
  icases Hp with ⟨Hp, Hext⟩
  iapply Hk
  isplitl [Has Har]
  · isplitl [Has]; · iexact Has
    isplitr; · iexact Hrs
    iexact Har
  isplitr; · iexact Hrr
  isplitl [Hp]; · iexact Hp
  isplitl [Hext]; · iexact Hext
  iexists _; iexact HO

end Rules

end Cert.KernelIdeal.Ring

end
-- ==== Proof.LayerKernelIdeal.lean ====
/-
# One layer, run on one device

`layer` is executed once, at a symbolic device and a symbolic layer: from the device's block of the activations
before the layer to its sum, every buffer, position and grant coming back as the next layer needs it.
-/
module

public import proofs.«01_k».proof.Proof.StepsKernelIdeal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ)

/-! ## What is lent between the layers -/

/-- The neighbours' landing places of the activations; after the last layer, a device's own are with it again. -/
def HL (c : Dev nD) (l : ℕ) : sProp 𝕄 := if l < 3 then GL (rt c) l else GL c l
def HR (c : Dev nD) (l : ℕ) : sProp 𝕄 := if l < 3 then GR (lf c) l else GR c l
theorem HL_lt (c : Dev nD) {l : ℕ} (hl : l < 3) : HL (F := F) c l = GL (rt c) l := if_pos hl
theorem HR_lt (c : Dev nD) {l : ℕ} (hl : l < 3) : HR (F := F) c l = GR (lf c) l := if_pos hl
/-- What stays of a device's own landing places when it has lent them for the next layer. -/
def keepL (c : Dev nD) (l : ℕ) : sProp 𝕄 := if l + 1 < 3 then iprop(emp) else GL c (l + 1)
def keepR (c : Dev nD) (l : ℕ) : sProp 𝕄 := if l + 1 < 3 then iprop(emp) else GR c (l + 1)

theorem ext_zero (l : ℕ) (n : Dev nD) : ext (F := F) l 0 n = iprop(free n fR ∗ reached ER (rCell n 4) l) := rfl
theorem ext_one (l : ℕ) (n : Dev nD) : ext (F := F) l 1 n = iprop(free n fL ∗ reached ER (rCell n 5) l) := rfl
theorem giveL (c : Dev nD) (l : ℕ) : GL (F := F) c (l + 1) ⊢ iprop(ext l 3 c ∗ keepL c l) := by
  unfold ext keepL
  by_cases h : l + 1 < 3
  · simp only [if_pos h]
    iintro H; isplitl [H]; · iexact H
    iempintro
  · simp only [if_neg h]
    iintro H; isplitr; · iempintro
    iexact H
theorem giveR (c : Dev nD) (l : ℕ) : GR (F := F) c (l + 1) ⊢ iprop(ext l 5 c ∗ keepR c l) := by
  unfold ext keepR
  by_cases h : l + 1 < 3
  · simp only [if_pos h]
    iintro H; isplitl [H]; · iexact H
    iempintro
  · simp only [if_neg h]
    iintro H; isplitr; · iempintro
    iexact H
theorem takeL (c : Dev nD) (l : ℕ) : iprop(keepL (F := F) c l ∗ ext l 3 (rt c)) ⊢ HL c (l + 1) := by
  unfold ext keepL HL
  by_cases h : l + 1 < 3
  · simp only [if_pos h]
    iintro ⟨-, H⟩; iexact H
  · simp only [if_neg h]
    iintro ⟨H, -⟩; iexact H
theorem takeR (c : Dev nD) (l : ℕ) : iprop(keepR (F := F) c l ∗ ext l 5 (lf c)) ⊢ HR c (l + 1) := by
  unfold ext keepR HR
  by_cases h : l + 1 < 3
  · simp only [if_pos h]
    iintro ⟨-, H⟩; iexact H
  · simp only [if_neg h]
    iintro ⟨H, -⟩; iexact H

/-! ## The state between two layers -/

def six (Φ : Fin 6 → sProp 𝕄) : sProp 𝕄 := iprop(Φ 0 ∗ Φ 1 ∗ Φ 2 ∗ Φ 3 ∗ Φ 4 ∗ Φ 5)

/-- The buffers a layer works in. -/
def bufs (c : Dev nD) : sProp 𝕄 := iprop(free c pO ∗ free c pL ∗ free c pR ∗ free c pD ∗ free c st ∗ free c fL ∗ free c fR)

def St (c : Dev nD) (l : ℕ) : sProp 𝕄 :=
  iprop(bufs c ∗ reached ER (rCell c 4) l ∗ reached ER (rCell c 5) l ∗ HL c l ∗ HR c l ∗ six (rest c l) ∗ ow c (6 * l))

theorem six_slots (c : Dev nD) (l : ℕ) : iprop(six (F := F) (rest c l) ∗ six (toks c l)) ⊢ six (slot c l) := by
  unfold six
  iintro ⟨⟨A0, A1, A2, A3, A4, A5⟩, B0, B1, B2, B3, B4, B5⟩
  isplitl [A0 B0]; · iapply (slot_of c l 0); isplitl [A0]; · iexact A0
                     iexact B0
  isplitl [A1 B1]; · iapply (slot_of c l 1); isplitl [A1]; · iexact A1
                     iexact B1
  isplitl [A2 B2]; · iapply (slot_of c l 2); isplitl [A2]; · iexact A2
                     iexact B2
  isplitl [A3 B3]; · iapply (slot_of c l 3); isplitl [A3]; · iexact A3
                     iexact B3
  isplitl [A4 B4]; · iapply (slot_of c l 4); isplitl [A4]; · iexact A4
                     iexact B4
  iapply (slot_of c l 5); isplitl [A5]; · iexact A5
  iexact B5

/-- A whole buffer in the three shares the copies 0 and 1 and the device's own load take, or in two. -/
theorem split3 (c : Dev nD) (M : Blk) (v : Vec F S256x256 .f32) :
    has c M v ⊢ (iprop(owns (c : Thread nD τ) M fullShare.left v ∗ owns (c : Thread nD τ) M fullShare.right.left v
      ∗ owns (c : Thread nD τ) M fullShare.right.right v) : sProp 𝕄) :=
  ((owns_halves (c : Thread nD τ) M fullShare v).1).trans (sep_mono_right (owns_halves (c : Thread nD τ) M fullShare.right v).1)
theorem join3 (c : Dev nD) (M : Blk) (v : Vec F S256x256 .f32) :
    (iprop(owns (c : Thread nD τ) M fullShare.left v ∗ owns (c : Thread nD τ) M fullShare.right.left v
      ∗ owns (c : Thread nD τ) M fullShare.right.right v) : sProp 𝕄) ⊢ has c M v :=
  (sep_mono_right (owns_halves (c : Thread nD τ) M fullShare.right v).2).trans ((owns_halves (c : Thread nD τ) M fullShare v).2)

theorem free_of (c : Dev nD) (M : Blk) (v : Vec F S256x256 .f32) : has (F := F) c M v ⊢ free c M := by
  unfold free; iintro H; iexists v; iexact H

/-! ## The layer -/

set_option maxHeartbeats 4000000 in
/-- The layer, executed operation by operation. -/
theorem wp_layer (c : Dev nD) {l : ℕ} (hl : l < 3) (d : Fin 6 → Dev nD) (hd : d = fun k => tgt k c)
    (wi : Memref sig .tc .vmem S256x512 .f32) (wo : Memref sig .tc .vmem S512x256 .f32) {Q : FVec F S256x256 .f32 → sProp 𝕄} :
    iprop(ctx I K ∗ has c xM (act I l c) ∗ St c l ∗ six (toks c l)
        ∗ owns (c : Thread nD τ) wi fullShare (I.w1 l c) ∗ owns (c : Thread nD τ) wo fullShare (I.w2 l c)
        ∗ ((has c xM (act I l c) ∗ St c (l + 1)
            ∗ owns (c : Thread nD τ) wi fullShare (I.w1 l c) ∗ owns (c : Thread nD τ) wo fullShare (I.w2 l c)) -∗ Q (total I l (act I l) c)))
      ⊢ wp frame (wpE (defs₀ (F := F)) 𝒱₀ (c : Thread nD τ) none) Set.univ (layer (F := F) d wi wo) Q := by
  subst hd
  unfold layer
  simp only [Prog.lift, Prog.bind_op, Prog.bind_ret, Prog.pure_eq_ret]
  iintro ⟨#Hctx, Hx, HSt, Htoks, Hwi, Hwo, HQ⟩
  unfold St
  icases HSt with ⟨Hbufs, #HrR, #HrL, HHL, HHR, Hrest, HO⟩
  ihave Hslots := (six_slots c l) $$ [Hrest Htoks]
  · isplitl [Hrest]; · iexact Hrest
    iexact Htoks
  unfold six
  icases Hslots with ⟨Z0, Z1, Z2, Z3, Z4, Z5⟩
  unfold bufs
  icases Hbufs with ⟨HpO, HpL, HpR, HpD, Hst, HfL, HfR⟩
  ihave HHL := (Entails.of_eq (HL_lt c hl)) $$ HHL
  ihave HHR := (Entails.of_eq (HR_lt c hl)) $$ HHR
  unfold GL GR
  icases HHL with ⟨Hn_aL, Hn_aD, #Hr0, #Hr2⟩
  icases HHR with ⟨Hn_aR, Hn_rA, #Hr1, #Hr3⟩
  -- the block goes to both neighbours, with the landing places of the sums
  ihave Hx3 := (split3 c xM (act I l c)) $$ Hx
  icases Hx3 with ⟨Hx0, Hx1, Hx⟩
  iapply (wp_go I K c _ hl 0 rfl (M := xM) (M' := aL) rfl rfl rfl rfl (j := 6 * l) (j' := 6 * l + 1) rfl rfl) $$ [Z0 Hx0 Hn_aL HfR HO]
  · isplitr; · iexact Hctx
    isplitl [Z0]; · iexact Z0
    isplitl [Hx0]; · iexact Hx0
    isplitl [Hn_aL]; · iexact Hn_aL
    isplitr; · iexact Hr0
    isplitl [HfR]
    · unfold ext; isplitl [HfR]; · iexact HfR
      iexact HrR
    iexact HO
  iintro ⟨Z0, HO⟩
  iapply (wp_go I K c _ hl 1 rfl (M := xM) (M' := aR) rfl rfl rfl rfl (j := 6 * l + 1) (j' := 6 * l + 2) rfl rfl) $$ [Z1 Hx1 Hn_aR HfL HO]
  · isplitr; · iexact Hctx
    isplitl [Z1]; · iexact Z1
    isplitl [Hx1]; · iexact Hx1
    isplitl [Hn_aR]; · iexact Hn_aR
    isplitr; · iexact Hr1
    isplitl [HfL]
    · unfold ext; isplitl [HfL]; · iexact HfL
      iexact HrL
    iexact HO
  iintro ⟨Z1, HO⟩
  -- its own part
  iapply (wp_ld c xM _ _) $$ Hx; iintro Hx
  iapply (wp_ld c wi _ _) $$ Hwi; iintro Hwi
  iapply (wp_ld c wo _ _) $$ Hwo; iintro Hwo
  unfold free
  icases HpO with ⟨%o0, HpO⟩
  iapply (wp_ld c pO _ _) $$ HpO; iintro HpO
  iapply (wp_sto c pO _) $$ HpO; iintro HpO
  -- the block has left twice and both neighbours' are here
  iapply (wp_left I K c hl 0 (M' := xM) xM rfl rfl rfl rfl) $$ [Z0 HO]
  · isplitr; · iexact Hctx
    isplitl [Z0]; · iexact Z0
    iexact HO
  iintro ⟨Z0, Hx0, HO⟩
  iapply (wp_came I K c hl 0 (j := 6 * l + 2) (M' := aL) aL rfl rfl (lf c) rfl rfl (by show 6 * l + 0 < 6 * l + 2; omega)) $$ [Z0 HO]
  · isplitr; · iexact Hctx
    isplitl [Z0]; · iexact Z0
    iexact HO
  iintro ⟨Z0, #Hc0, HaL, Hext0, HO⟩
  iapply (wp_left I K c hl 1 (M' := xM) xM rfl rfl rfl rfl) $$ [Z1 HO]
  · isplitr; · iexact Hctx
    isplitl [Z1]; · iexact Z1
    iexact HO
  iintro ⟨Z1, Hx1, HO⟩
  iapply (wp_came I K c hl 1 (j := 6 * l + 2) (M' := aR) aR rfl rfl (rt c) rfl rfl (by show 6 * l + 1 < 6 * l + 2; omega)) $$ [Z1 HO]
  · isplitr; · iexact Hctx
    isplitl [Z1]; · iexact Z1
    iexact HO
  iintro ⟨Z1, #Hc1, HaR, Hext1, HO⟩
  ihave Hx := (join3 c xM (act I l c)) $$ [Hx0 Hx1 Hx]
  · isplitl [Hx0]; · iexact Hx0
    isplitl [Hx1]; · iexact Hx1
    iexact Hx
  -- the left neighbour's block goes on to the right one
  ihave HaL2 := (owns_halves (c : Thread nD τ) aL fullShare _).1 $$ HaL
  icases HaL2 with ⟨HaL, HaL'⟩
  iapply (wp_go I K c _ hl 2 rfl (M := aL) (M' := aD) rfl rfl rfl rfl (j := 6 * l + 2) (j' := 6 * l + 3) rfl rfl) $$ [Z2 HaL Hn_aD HO]
  · isplitr; · iexact Hctx
    isplitl [Z2]; · iexact Z2
    isplitl [HaL]; · iexact HaL
    isplitl [Hn_aD]; · unfold free; iexact Hn_aD
    isplitr; · iexact Hr2
    isplitr; · unfold ext; iempintro
    iexact HO
  iintro ⟨Z2, HO⟩
  -- the parts for the two neighbours
  iapply (wp_ld c aL _ _) $$ HaL'; iintro HaL'
  iapply (wp_ld c wi _ _) $$ Hwi; iintro Hwi
  iapply (wp_ld c wo _ _) $$ Hwo; iintro Hwo
  icases HpL with ⟨%o1, HpL⟩
  iapply (wp_ld c pL _ _) $$ HpL; iintro HpL
  iapply (wp_sto c pL _) $$ HpL; iintro HpL
  iapply (wp_ld c aR _ _) $$ HaR; iintro HaR
  iapply (wp_ld c wi _ _) $$ Hwi; iintro Hwi
  iapply (wp_ld c wo _ _) $$ Hwo; iintro Hwo
  icases HpR with ⟨%o2, HpR⟩
  iapply (wp_ld c pR _ _) $$ HpR; iintro HpR
  iapply (wp_sto c pR _) $$ HpR; iintro HpR
  iapply (wp_left I K c hl 2 (M' := aL) aL rfl rfl rfl rfl) $$ [Z2 HO]
  · isplitr; · iexact Hctx
    isplitl [Z2]; · iexact Z2
    iexact HO
  iintro ⟨Z2, HaL, HO⟩
  ihave HaL := (owns_halves (c : Thread nD τ) aL fullShare _).2 $$ [HaL HaL']
  · isplitl [HaL]; · iexact HaL
    iexact HaL'
  iapply (wp_came I K c hl 2 (j := 6 * l + 3) (M' := aD) aD rfl rfl (lf c) rfl rfl (by show 6 * l + 2 < 6 * l + 3; omega)) $$ [Z2 HO]
  · isplitr; · iexact Hctx
    isplitl [Z2]; · iexact Z2
    iexact HO
  iintro ⟨Z2, #Hc2, HaD, -, HO⟩
  -- the part for the opposite device
  iapply (wp_ld c aD _ _) $$ HaD; iintro HaD
  iapply (wp_ld c wi _ _) $$ Hwi; iintro Hwi
  iapply (wp_ld c wo _ _) $$ Hwo; iintro Hwo
  icases HpD with ⟨%o3, HpD⟩
  iapply (wp_ld c pD _ _) $$ HpD; iintro HpD
  iapply (wp_sto c pD _) $$ HpD; iintro HpD
  -- it leaves to the left, with the landing places the left neighbour fills in the next layer
  ihave HG := (giveL c l) $$ [HaL HaD]
  · unfold GL free
    isplitl [HaL]; · iexists _; iexact HaL
    isplitl [HaD]; · iexists _; iexact HaD
    isplitr; · iexact Hc0
    iexact Hc2
  icases HG with ⟨HextL, HkL⟩
  iapply (wp_go I K c _ hl 3 rfl (M := pD) (M' := rA) rfl rfl rfl rfl (j := 6 * l + 3) (j' := 6 * l + 4) rfl rfl) $$ [Z3 HpD Hn_rA HextL HO]
  · isplitr; · iexact Hctx
    isplitl [Z3]; · iexact Z3
    isplitl [HpD]; · iexact HpD
    isplitl [Hn_rA]; · unfold free; iexact Hn_rA
    isplitr; · iexact Hr3
    isplitl [HextL]; · iexact HextL
    iexact HO
  iintro ⟨Z3, HO⟩
  iapply (wp_left I K c hl 3 (M' := pD) pD rfl rfl rfl rfl) $$ [Z3 HO]
  · isplitr; · iexact Hctx
    isplitl [Z3]; · iexact Z3
    iexact HO
  iintro ⟨Z3, HpD, HO⟩
  iapply (wp_came I K c hl 3 (j := 6 * l + 4) (M' := rA) rA rfl rfl (rt c) rfl rfl (by show 6 * l + 3 < 6 * l + 4; omega)) $$ [Z3 HO]
  · isplitr; · iexact Hctx
    isplitl [Z3]; · iexact Z3
    iexact HO
  iintro ⟨Z3, #Hc3, HrA, Hext3, HO⟩
  -- the sum for the left neighbour
  iapply (wp_ld c pL _ _) $$ HpL; iintro HpL
  iapply (wp_ld c rA _ _) $$ HrA; iintro HrA
  icases Hst with ⟨%o4, Hst⟩
  iapply (wp_ld c st _ _) $$ Hst; iintro Hst
  iapply (wp_sto c st _) $$ Hst; iintro Hst
  ihave Hext0 := (Entails.of_eq (ext_zero l (lf c))) $$ Hext0
  ihave Hext1 := (Entails.of_eq (ext_one l (rt c))) $$ Hext1
  icases Hext0 with ⟨Hn_fR, #Hr4⟩
  icases Hext1 with ⟨Hn_fL, #Hr5⟩
  iapply (wp_go I K c _ hl 4 rfl (M := st) (M' := fR) rfl rfl rfl rfl (j := 6 * l + 4) (j' := 6 * l + 5) rfl rfl) $$ [Z4 Hst Hn_fR HO]
  · isplitr; · iexact Hctx
    isplitl [Z4]; · iexact Z4
    isplitl [Hst]; · iexact Hst
    isplitl [Hn_fR]; · iexact Hn_fR
    isplitr; · iexact Hr4
    isplitr; · unfold ext; iempintro
    iexact HO
  iintro ⟨Z4, HO⟩
  -- the part for the right neighbour leaves, with the landing places that one fills in the next layer
  ihave HG := (giveR c l) $$ [HaR HrA]
  · unfold GR free
    isplitl [HaR]; · iexists _; iexact HaR
    isplitl [HrA]; · iexists _; iexact HrA
    isplitr; · iexact Hc1
    iexact Hc3
  icases HG with ⟨HextR, HkR⟩
  iapply (wp_go I K c _ hl 5 rfl (M := pR) (M' := fL) rfl rfl rfl rfl (j := 6 * l + 5) (j' := 6 * (l + 1)) rfl (by omega)) $$ [Z5 HpR Hn_fL HextR HO]
  · isplitr; · iexact Hctx
    isplitl [Z5]; · iexact Z5
    isplitl [HpR]; · iexact HpR
    isplitl [Hn_fL]; · iexact Hn_fL
    isplitr; · iexact Hr5
    isplitl [HextR]; · iexact HextR
    iexact HO
  iintro ⟨Z5, HO⟩
  iapply (wp_left I K c hl 4 (M' := st) st rfl rfl rfl rfl) $$ [Z4 HO]
  · isplitr; · iexact Hctx
    isplitl [Z4]; · iexact Z4
    iexact HO
  iintro ⟨Z4, Hst, HO⟩
  iapply (wp_came I K c hl 4 (j := 6 * (l + 1)) (M' := fR) fR rfl rfl (rt c) rfl rfl (by show 6 * l + 4 < 6 * (l + 1); omega)) $$ [Z4 HO]
  · isplitr; · iexact Hctx
    isplitl [Z4]; · iexact Z4
    iexact HO
  iintro ⟨Z4, #Hc4, HfR, -, HO⟩
  iapply (wp_left I K c hl 5 (M' := pR) pR rfl rfl rfl rfl) $$ [Z5 HO]
  · isplitr; · iexact Hctx
    isplitl [Z5]; · iexact Z5
    iexact HO
  iintro ⟨Z5, HpR, HO⟩
  iapply (wp_came I K c hl 5 (j := 6 * (l + 1)) (M' := fL) fL rfl rfl (lf c) rfl rfl (by show 6 * l + 5 < 6 * (l + 1); omega)) $$ [Z5 HO]
  · isplitr; · iexact Hctx
    isplitl [Z5]; · iexact Z5
    iexact HO
  iintro ⟨Z5, #Hc5, HfL, Hext5, HO⟩
  -- the sum of the device's own rows
  iapply (wp_ld c pO _ _) $$ HpO; iintro HpO
  iapply (wp_ld c fL _ _) $$ HfL; iintro HfL
  iapply (wp_ld c fR _ _) $$ HfR; iintro HfR
  rw [wp_ret, show k0_pay15 (k0_pay2 (act I l c) (I.w1 l c) (I.w2 l c)) (sentAt I l 5 (lf c)) (sentAt I l 4 (rt c)) = total I l (act I l) c from rfl]
  imodintro
  iapply HQ
  isplitl [Hx]; · iexact Hx
  isplitr [Hwi Hwo]
  · isplitl [HpO HpL HpR HpD Hst HfL HfR]
    · isplitl [HpO]; · iexists _; iexact HpO
      isplitl [HpL]; · iexists _; iexact HpL
      isplitl [HpR]; · iexists _; iexact HpR
      isplitl [HpD]; · iexists _; iexact HpD
      isplitl [Hst]; · iexists _; iexact Hst
      isplitl [HfL]; · iexists _; iexact HfL
      iexists _; iexact HfR
    isplitr; · iexact Hc4
    isplitr; · iexact Hc5
    isplitl [HkL Hext3]
    · iapply (takeL c l); isplitl [HkL]; · iexact HkL
      iexact Hext3
    isplitl [HkR Hext5]
    · iapply (takeR c l); isplitl [HkR]; · iexact HkR
      iexact Hext5
    isplitr [HO]
    · isplitl [Z0]; · iexact Z0
      isplitl [Z1]; · iexact Z1
      isplitl [Z2]; · iexact Z2
      isplitl [Z3]; · iexact Z3
      isplitl [Z4]; · iexact Z4
      iexact Z5
    iexact HO
  isplitl [Hwi]; · iexact Hwi
  iexact Hwo

end Cert.KernelIdeal.Ring

end
-- ==== Proof.BodyKernelIdeal.lean ====
/-
# The whole kernel on one device

The prologue is executed from what the launch gives a device: its two signals lend its own landing places to the
neighbours, and its wait brings the neighbours' landing places. The three layers then follow by the layer's rule. After
the last one every cell is closed, so that its counter stands at zero.
-/
module

public import proofs.«01_k».proof.Proof.LayerKernelIdeal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (I : Ins F) (K : Dev nD × CK → ℕ)

/-! ## What a device starts from -/

/-- Every cell stands at its first round. -/
def marks : sProp 𝕄 := bigSep Finset.univ fun ck : Dev nD × CK => reached ER (kcell ck) 0
instance marks_persistent : BI.Persistent (marks (F := F)) := by unfold marks; infer_instance
theorem mark (ck : Dev nD × CK) : marks (F := F) ⊢ reached ER (kcell ck) 0 := bigSep_elim (Finset.mem_univ ck)
theorem mark_s (c : Dev nD) (k : Fin 6) : marks (F := F) ⊢ reached ER (sCell c k) 0 := mark (c, some (false, k))
theorem mark_r (c : Dev nD) (k : Fin 6) : marks (F := F) ⊢ reached ER (rCell c k) 0 := mark (c, some (true, k))
theorem mark_bar (c : Dev nD) : marks (F := F) ⊢ reached ER (barCell c) 0 := mark (c, none)

/-- The positions at the two cells of one copy. -/
def pos (c : Dev nD) (k : Fin 6) : sProp 𝕄 := iprop(atPos ER (sCell c k) 0 ∅ 0 ∗ atPos ER (rCell c k) 0 ∅ 0)
/-- The barrier: the device's own position and credit, the right to signal each neighbour. -/
def barSt (c : Dev nD) : sProp 𝕄 :=
  iprop(atPos ER (barCell c) 0 ∅ 0 ∗ dutyTok ER (barCell (lf c)) 0 true ∗ dutyTok ER (barCell (rt c)) 0 false ∗ cred (tallyAt (barCell c) 0 2))
def allToks (c : Dev nD) : sProp 𝕄 := iprop(six (toks c 0) ∗ six (toks c 1) ∗ six (toks c 2))
/-- The twelve scratch buffers. -/
def scr (c : Dev nD) : sProp 𝕄 :=
  iprop(free c xM ∗ free c aL ∗ free c aR ∗ free c aD ∗ free c rA ∗ free c fL ∗ free c fR ∗ free c pO ∗ free c pL ∗ free c pR ∗ free c pD ∗ free c st)

/-- The counter of every cell of device `c`, at zero. -/
def zero2 (c : Dev nD) (k : Fin 6) : sProp 𝕄 := iprop(semVal (sCell c k) 0 ∗ semVal (rCell c k) 0)
def zeros (c : Dev nD) : sProp 𝕄 := iprop(semVal (barCell c) 0 ∗ six (zero2 c))

theorem rest_intro (c : Dev nD) (k : Fin 6) : iprop(marks (F := F) ∗ pos c k) ⊢ rest c 0 k := by
  unfold pos rest
  iintro ⟨#Hm, H1, H2⟩
  isplitl [H1]; · iexact H1
  isplitr; · iapply (mark_s c k); iexact Hm
  iexact H2
theorem six_with {P : sProp 𝕄} [BI.Persistent P] {Φ Ψ : Fin 6 → sProp 𝕄} (h : ∀ k, iprop(P ∗ Φ k) ⊢ Ψ k) : iprop(P ∗ six Φ) ⊢ six Ψ := by
  unfold six
  iintro ⟨#HP, A0, A1, A2, A3, A4, A5⟩
  isplitl [A0]; · iapply (h 0); isplitr; · iexact HP
                  iexact A0
  isplitl [A1]; · iapply (h 1); isplitr; · iexact HP
                  iexact A1
  isplitl [A2]; · iapply (h 2); isplitr; · iexact HP
                  iexact A2
  isplitl [A3]; · iapply (h 3); isplitr; · iexact HP
                  iexact A3
  isplitl [A4]; · iapply (h 4); isplitr; · iexact HP
                  iexact A4
  iapply (h 5); isplitr; · iexact HP
  iexact A5

/-! ## The prologue -/

/-- A block is stored. -/
theorem wp_putB (c : Dev nD) (M : Blk) (v : FVec F S256x256 .f32) {Q : PUnit → sProp 𝕄} :
    iprop(free c M ∗ (has c M v -∗ Q ⟨⟩)) ⊢ wp frame (wpE (defs₀ (F := F)) 𝒱₀ (c : Thread nD τ) none) Set.univ (putB (F := F) M v) Q := by
  unfold putB
  simp only [Prog.lift, Prog.bind_op, Prog.bind_ret, Prog.pure_eq_ret]
  unfold free
  iintro ⟨⟨%v', H⟩, HQ⟩
  iapply (wp_ld c M fullShare v') $$ H
  iintro H
  iapply (wp_sto c M v') $$ H
  iintro H
  rw [wp_ret]; imodintro
  iapply HQ; iexact H

set_option maxHeartbeats 1000000 in
theorem wp_prologue (c : Dev nD) (x : Blk) (v : Vec F S256x256 .f32) (W : Waits sig ℕ) {Q : PUnit → sProp 𝕄} :
    iprop(ctx I K ∗ marks ∗ barSt c ∗ (free c aL ∗ free c aD ∗ free c aR ∗ free c rA ∗ free c xM) ∗ owes (c : Thread nD τ) (O₀ c) W ∗ has c x v
        ∗ ((has c xM (k0_pay1 v) ∗ HL c 0 ∗ HR c 0 ∗ atPos ER (barCell c) 1 ∅ 0 ∗ ow c 0 ∗ has c x v) -∗ Q ⟨⟩))
      ⊢ wp frame (wpE (defs₀ (F := F)) 𝒱₀ (c : Thread nD τ) none) Set.univ (prologue (F := F) x c) Q := by
  unfold prologue
  simp only [semSignalWord, semWaitWord, Prog.lift, Prog.bind_op, Prog.bind_ret, Prog.pure_eq_ret, wp_deviceId, dev1_eq, dev2_eq]
  unfold barSt
  iintro ⟨#Hctx, #Hm, ⟨Hat, HtL, HtR, Hcr⟩, ⟨HaL, HaD, HaR, HrA, HxM⟩, HO, Hx, HQ⟩
  ihave #HIl := (ctx_bar I K (lf c)) $$ Hctx
  ihave #HIr := (ctx_bar I K (rt c)) $$ Hctx
  ihave #HI := (ctx_bar I K c) $$ Hctx
  ihave #Hlev := (ctx_lev I K) $$ Hctx
  -- to the left neighbour, with the landing places of its copies 0 and 2
  iapply (Rounds.wp_signal 𝒱₀ ER (ringRd I) (c : Thread nD τ) none (dst := (lf c : Thread nD τ)) (κ := K (lf c, none))
      (d := true) (by rw [duties_bar]; exact Finset.mem_univ _) ((amount_bar I (lf c) true).trans (by decide)) 0 (O₁ c) rfl)
    $$ [HO HtL HaL HaD]
  · isplitr; · iexact HIl
    isplitl [HO]; · iexact HO
    isplitl [HtL]; · iexact HtL
    isplitl [HaL HaD]
    · rw [payload_bar_true, rt_lf]; unfold GL
      isplitl [HaL]; · iexact HaL
      isplitl [HaD]; · iexact HaD
      isplitr; · iapply (mark_r c 0); iexact Hm
      iapply (mark_r c 2); iexact Hm
    · iapply (mark_bar (lf c)); iexact Hm
  iintro HO
  unfold O₁
  -- to the right neighbour, with those of its copies 1 and 3
  iapply (Rounds.wp_signal 𝒱₀ ER (ringRd I) (c : Thread nD τ) none (dst := (rt c : Thread nD τ)) (κ := K (rt c, none))
      (d := false) (by rw [duties_bar]; exact Finset.mem_univ _) ((amount_bar I (rt c) false).trans (by decide)) 0 (Orem c 0) rfl)
    $$ [HO HtR HaR HrA]
  · isplitr; · iexact HIr
    isplitl [HO]; · iexact HO
    isplitl [HtR]; · iexact HtR
    isplitl [HaR HrA]
    · rw [payload_bar_false, lf_rt]; unfold GR
      isplitl [HaR]; · iexact HaR
      isplitl [HrA]; · iexact HrA
      isplitr; · iapply (mark_r c 1); iexact Hm
      iapply (mark_r c 3); iexact Hm
    · iapply (mark_bar (rt c)); iexact Hm
  iintro HO
  -- both neighbours' landing places
  iapply (Rounds.wp_wait_rest_token 𝒱₀ ER (ringRd I) (c : Thread nD τ) none (κ := K (c, none))
      (wpE_semWait_eq 𝒱₀ (c : Thread nD τ) none Set.univ) (Set.mem_univ _) 0 (O := Orem c 0) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_rem c (.reg barS) 0 0 (by decide) (by rw [lv_bar]; decide)); iexact Hlev
    iexact Hat
  iintro ⟨HO, Hat, -, Hpay⟩
  ihave Hp := (Entails.of_eq (rest_bar I c)) $$ Hpay
  icases Hp with ⟨HR, HL⟩
  iapply (wp_ld c x fullShare v) $$ Hx
  iintro Hx
  unfold free
  icases HxM with ⟨%v', HxM⟩
  iapply (wp_ld c xM fullShare v') $$ HxM
  iintro HxM
  iapply (wp_sto c xM v') $$ HxM
  iintro HxM
  rw [wp_ret]; imodintro
  iapply HQ
  isplitl [HxM]; · iexact HxM
  isplitl [HL]; · rw [HL_lt c (by decide)]; iexact HL
  isplitl [HR]; · rw [HR_lt c (by decide)]; iexact HR
  isplitl [Hat]; · iexact Hat
  isplitl [HO]
  · unfold ow; iexists _; iexact HO
  iexact Hx

/-! ## The cells close -/

theorem close2 (c : Dev nD) (k : Fin 6) : iprop(ctx I K ∗ rest c 3 k) ⊢ |={Set.univ}=> zero2 c k := by
  unfold rest zero2
  iintro ⟨#Hctx, H1, -, H2⟩
  imod (Rounds.cell_close ER (ringRd I) (Set.mem_univ (K (c, some (false, k)))) (fun h => h) (R := 3) (duties_later I (sCell c k))) $$ [H1] with Hz1
  · isplitr; · iapply (ctx_s I K c k); iexact Hctx
    iexact H1
  imod (Rounds.cell_close ER (ringRd I) (Set.mem_univ (K (c, some (true, k)))) (fun h => h) (R := 3) (duties_later I (rCell c k))) $$ [H2] with Hz2
  · isplitr; · iapply (ctx_r I K c k); iexact Hctx
    iexact H2
  imodintro
  isplitl [Hz1]; · iexact Hz1
  iexact Hz2

theorem close_all (c : Dev nD) : iprop(ctx I K ∗ atPos ER (barCell c) 1 ∅ 0 ∗ six (rest c 3)) ⊢ |={Set.univ}=> zeros c := by
  unfold zeros six
  iintro ⟨#Hctx, Hb, A0, A1, A2, A3, A4, A5⟩
  imod (Rounds.cell_close ER (ringRd I) (Set.mem_univ (K (c, none))) (fun h => h) (R := 1) (duties_bar_later I c)) $$ [Hb] with Hz
  · isplitr; · iapply (ctx_bar I K c); iexact Hctx
    iexact Hb
  imod (close2 I K c 0) $$ [A0] with B0
  · isplitr; · iexact Hctx
    iexact A0
  imod (close2 I K c 1) $$ [A1] with B1
  · isplitr; · iexact Hctx
    iexact A1
  imod (close2 I K c 2) $$ [A2] with B2
  · isplitr; · iexact Hctx
    iexact A2
  imod (close2 I K c 3) $$ [A3] with B3
  · isplitr; · iexact Hctx
    iexact A3
  imod (close2 I K c 4) $$ [A4] with B4
  · isplitr; · iexact Hctx
    iexact A4
  imod (close2 I K c 5) $$ [A5] with B5
  · isplitr; · iexact Hctx
    iexact A5
  imodintro
  isplitl [Hz]; · iexact Hz
  isplitl [B0]; · iexact B0
  isplitl [B1]; · iexact B1
  isplitl [B2]; · iexact B2
  isplitl [B3]; · iexact B3
  isplitl [B4]; · iexact B4
  iexact B5

/-- After the last layer a device's landing places are its own. -/
theorem home (c : Dev nD) : iprop(HL (F := F) c 3 ∗ HR c 3) ⊢ iprop((free c aL ∗ free c aD) ∗ free c aR ∗ free c rA) := by
  rw [show HL (F := F) c 3 = GL c 3 from if_neg (by decide), show HR (F := F) c 3 = GR c 3 from if_neg (by decide)]
  unfold GL GR
  iintro ⟨⟨H1, H2, -, -⟩, H3, H4, -, -⟩
  isplitl [H1 H2]
  · isplitl [H1]; · iexact H1
    iexact H2
  isplitl [H3]; · iexact H3
  iexact H4

/-! ## The body -/

/-- The result of device `c`. -/
def out (c : Dev nD) : Vec F S256x256 .f32 := total I 2 (act I 2) c

/-- The weights of the three layers, as they are staged. -/
def weights (c : Dev nD) (wi0 : Memref sig .tc .vmem S256x512 .f32) (wo0 : Memref sig .tc .vmem S512x256 .f32) (wi1 : Memref sig .tc .vmem S256x512 .f32)
    (wo1 : Memref sig .tc .vmem S512x256 .f32) (wi2 : Memref sig .tc .vmem S256x512 .f32) (wo2 : Memref sig .tc .vmem S512x256 .f32) : sProp 𝕄 :=
  iprop(owns (c : Thread nD τ) wi0 fullShare (I.w1 0 c) ∗ owns (c : Thread nD τ) wo0 fullShare (I.w2 0 c)
    ∗ owns (c : Thread nD τ) wi1 fullShare (I.w1 1 c) ∗ owns (c : Thread nD τ) wo1 fullShare (I.w2 1 c)
    ∗ owns (c : Thread nD τ) wi2 fullShare (I.w1 2 c) ∗ owns (c : Thread nD τ) wo2 fullShare (I.w2 2 c))

set_option maxHeartbeats 2000000 in
theorem wp_whole (c : Dev nD) (x wi0 wo0 wi1 wo1 wi2 wo2 o) (W : Waits sig ℕ) {Q : PUnit → sProp 𝕄} :
    iprop(ctx I K ∗ marks ∗ barSt c ∗ six (pos c) ∗ allToks c ∗ scr c ∗ owes (c : Thread nD τ) (O₀ c) W
        ∗ has c x (I.x c) ∗ weights I c wi0 wo0 wi1 wo1 wi2 wo2 ∗ free c o
        ∗ ((zeros c ∗ scr c ∗ (∃ W, owes (c : Thread nD τ) 0 W) ∗ has c x (I.x c) ∗ weights I c wi0 wo0 wi1 wo1 wi2 wo2 ∗ has c o (out I c)) -∗ Q ⟨⟩))
      ⊢ wp frame (wpE (defs₀ (F := F)) 𝒱₀ (c : Thread nD τ) none) Set.univ (whole (F := F) x wi0 wo0 wi1 wo1 wi2 wo2 o c) Q := by
  unfold whole
  simp only [wp_bind]
  unfold scr allToks weights
  iintro ⟨#Hctx, #Hm, Hbar, Hpos, ⟨Ht0, Ht1, Ht2⟩, ⟨HxM, HaL, HaR, HaD, HrA, HfL, HfR, HpO, HpL, HpR, HpD, Hst⟩, HO, Hx, ⟨Hwi0, Hwo0, Hwi1, Hwo1, Hwi2, Hwo2⟩, Ho, HQ⟩
  ihave Hrest := (six_with (rest_intro (F := F) c)) $$ [Hpos]
  · isplitr; · iexact Hm
    iexact Hpos
  iapply (wp_prologue I K c x (I.x c) W)
  isplitr; · iexact Hctx
  isplitr; · iexact Hm
  isplitl [Hbar]; · iexact Hbar
  isplitl [HaL HaD HaR HrA HxM]
  · isplitl [HaL]; · iexact HaL
    isplitl [HaD]; · iexact HaD
    isplitl [HaR]; · iexact HaR
    isplitl [HrA]; · iexact HrA
    iexact HxM
  isplitl [HO]; · iexact HO
  isplitl [Hx]; · iexact Hx
  iintro ⟨HxM, HL, HR, Hat, HO, Hx⟩
  ihave HSt := (show iprop(bufs (F := F) c ∗ reached ER (rCell c 4) 0 ∗ reached ER (rCell c 5) 0 ∗ HL c 0 ∗ HR c 0 ∗ six (rest c 0) ∗ ow c 0) ⊢ St c 0 from Entails.of_eq rfl) $$ [HfL HfR HpO HpL HpR HpD Hst HL HR Hrest HO]
  · unfold bufs
    isplitl [HfL HfR HpO HpL HpR HpD Hst]
    · isplitl [HpO]; · iexact HpO
      isplitl [HpL]; · iexact HpL
      isplitl [HpR]; · iexact HpR
      isplitl [HpD]; · iexact HpD
      isplitl [Hst]; · iexact Hst
      isplitl [HfL]; · iexact HfL
      iexact HfR
    isplitr; · iapply (mark_r c 4); iexact Hm
    isplitr; · iapply (mark_r c 5); iexact Hm
    isplitl [HL]; · iexact HL
    isplitl [HR]; · iexact HR
    isplitl [Hrest]; · iexact Hrest
    iexact HO
  -- the first layer
  iapply (wp_layer I K c (l := 0) (by decide) (devs0 c) (devs0_eq c) wi0 wo0)
  isplitr; · iexact Hctx
  isplitl [HxM]; · iexact HxM
  isplitl [HSt]; · iexact HSt
  isplitl [Ht0]; · iexact Ht0
  isplitl [Hwi0]; · iexact Hwi0
  isplitl [Hwo0]; · iexact Hwo0
  iintro ⟨HxM, HSt, Hwi0, Hwo0⟩
  iapply (wp_putB c xM)
  isplitl [HxM]; · iapply (free_of c xM); iexact HxM
  iintro HxM
  -- the second
  iapply (wp_layer I K c (l := 1) (by decide) (devs1 c) (devs1_eq c) wi1 wo1)
  isplitr; · iexact Hctx
  isplitl [HxM]; · iexact HxM
  isplitl [HSt]; · iexact HSt
  isplitl [Ht1]; · iexact Ht1
  isplitl [Hwi1]; · iexact Hwi1
  isplitl [Hwo1]; · iexact Hwo1
  iintro ⟨HxM, HSt, Hwi1, Hwo1⟩
  iapply (wp_putB c xM)
  isplitl [HxM]; · iapply (free_of c xM); iexact HxM
  iintro HxM
  -- the third
  iapply (wp_layer I K c (l := 2) (by decide) (devs2 c) (devs2_eq c) wi2 wo2)
  isplitr; · iexact Hctx
  isplitl [HxM]; · iexact HxM
  isplitl [HSt]; · iexact HSt
  isplitl [Ht2]; · iexact Ht2
  isplitl [Hwi2]; · iexact Hwi2
  isplitl [Hwo2]; · iexact Hwo2
  iintro ⟨HxM, HSt, Hwi2, Hwo2⟩
  unfold St
  icases HSt with ⟨Hbufs, -, -, HL, HR, Hrest, HO⟩
  iapply fupd_wp
  imod (close_all I K c) $$ [Hat Hrest] with Hz
  · isplitr; · iexact Hctx
    isplitl [Hat]; · iexact Hat
    iexact Hrest
  imodintro
  iapply (wp_putB c o)
  isplitl [Ho]; · iexact Ho
  iintro Ho
  iapply HQ
  ihave Hh := (home (F := F) c) $$ [HL HR]
  · isplitl [HL]; · iexact HL
    iexact HR
  icases Hh with ⟨⟨HaL, HaD⟩, HaR, HrA⟩
  unfold bufs
  icases Hbufs with ⟨HpO, HpL, HpR, HpD, Hst, HfL, HfR⟩
  isplitl [Hz]; · iexact Hz
  isplitl [HxM HaL HaD HaR HrA HpO HpL HpR HpD Hst HfL HfR]
  · isplitl [HxM]; · iapply (free_of c xM); iexact HxM
    isplitl [HaL]; · iexact HaL
    isplitl [HaR]; · iexact HaR
    isplitl [HaD]; · iexact HaD
    isplitl [HrA]; · iexact HrA
    isplitl [HfL]; · iexact HfL
    isplitl [HfR]; · iexact HfR
    isplitl [HpO]; · iexact HpO
    isplitl [HpL]; · iexact HpL
    isplitl [HpR]; · iexact HpR
    isplitl [HpD]; · iexact HpD
    iexact Hst
  isplitl [HO]
  · unfold ow
    icases HO with ⟨%W', HO⟩
    iexists W'
    rw [show Orem c (6 * (2 + 1)) = 0 from Orem_end c]
    iexact HO
  isplitl [Hx]; · iexact Hx
  isplitl [Hwi0 Hwo0 Hwi1 Hwo1 Hwi2 Hwo2]
  · isplitl [Hwi0]; · iexact Hwi0
    isplitl [Hwo0]; · iexact Hwo0
    isplitl [Hwi1]; · iexact Hwi1
    isplitl [Hwo1]; · iexact Hwo1
    isplitl [Hwi2]; · iexact Hwi2
    iexact Hwo2
  iexact Ho

end Cert.KernelIdeal.Ring

end
-- ==== Proof.LaunchKernelIdeal.lean ====
/-
# The launch

What the launch deals the four devices, the body obligation of the one pipeline, and the run of `main`: it terminates,
with the argument arrays as they were, each device's result array written with `out`, and every semaphore at zero.
-/
module

public import proofs.«01_k».proof.Proof.BodyKernelIdeal
public import proofs.«01_k».proof.Proof.Gen.KernelIdeal.Launch
public import Idealize.ShloMosaic.Lib.Pipeline.CollectiveSegs
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Sums over the copies, the cells and the tokens -/

theorem sum_six (Φ : Fin 6 → sProp 𝕄) : bigSep Finset.univ Φ = six Φ :=
  bigSep_univ_eq_bigSepL [0, 1, 2, 3, 4, 5] (by decide) (by decide) Φ
theorem sum_bool (Φ : Bool → sProp 𝕄) : bigSep Finset.univ Φ = iprop(Φ false ∗ Φ true) :=
  bigSep_univ_eq_bigSepL [false, true] (by decide) (by decide) Φ
theorem sum_three (Φ : Fin 3 → sProp 𝕄) : bigSep Finset.univ Φ = iprop(Φ 0 ∗ Φ 1 ∗ Φ 2) :=
  bigSep_univ_eq_bigSepL [0, 1, 2] (by decide) (by decide) Φ
theorem six_sep (Φ Ψ : Fin 6 → sProp 𝕄) : six (fun k => iprop(Φ k ∗ Ψ k)) = iprop(six Φ ∗ six Ψ) := by
  rw [← sum_six, ← sum_six, ← sum_six, bigSep_sep']
theorem six_mono {Φ Ψ : Fin 6 → sProp 𝕄} (h : ∀ k, Φ k ⊢ Ψ k) : six Φ ⊢ six Ψ := by
  rw [← sum_six, ← sum_six]; exact bigSep_mono fun k _ => h k
theorem sum_cells (Φ : CK → sProp 𝕄) : bigSep Finset.univ Φ = iprop(Φ none ∗ six (fun k => iprop(Φ (some (false, k)) ∗ Φ (some (true, k))))) := by
  rw [bigSep_univ_equiv (Equiv.optionEquivSumPUnit.{0, 0} (Bool × Fin 6)).symm, bigSep_univ_sum, bigSep_univ_prod, sum_bool, sum_six, sum_six, six_sep,
    bigSep_univ_of_subsingleton PUnit.unit.{1}]
  exact BI.Entails.antisymm BI.sep_comm BI.sep_comm

/-! ## The blocks as they are staged -/

variable (m : (ℓ : Loc nD τ sig) → Buf (Elt F) ℓ) (ρ : Dev nD → PrngReg)

/-- The launch configuration: every counter at zero. -/
def s₀ : MemSt nD τ sig (Elt F) := ⟨m, fun _ => 0, ρ⟩

theorem cfg0_N : cfg0.N = 1 := by decide
def w₀ : Fin cfg0.N := ⟨0, by rw [cfg0_N]; decide⟩
theorem fin_N (t : Fin cfg0.N) : t = w₀ := by
  obtain ⟨t, ht⟩ := t; have := cfg0_N; exact Fin.ext (by simp only [w₀]; omega)

/-- The blocks of the launch's memory. -/
def ins : Ins F where
  x c := (win0_0.blk (0 : Fin 1)).view.read (Elt F) (m ((c : Thread nD τ).loc main_arg0))
  w1 l c := match l with
    | 0 => (win0_1.blk (0 : Fin 1)).view.read (Elt F) (m ((c : Thread nD τ).loc main_arg1))
    | 1 => (win0_3.blk (0 : Fin 1)).view.read (Elt F) (m ((c : Thread nD τ).loc main_arg2))
    | _ => (win0_5.blk (0 : Fin 1)).view.read (Elt F) (m ((c : Thread nD τ).loc main_arg3))
  w2 l c := match l with
    | 0 => (win0_2.blk (0 : Fin 1)).view.read (Elt F) (m ((c : Thread nD τ).loc main_arg4))
    | 1 => (win0_4.blk (0 : Fin 1)).view.read (Elt F) (m ((c : Thread nD τ).loc main_arg5))
    | _ => (win0_6.blk (0 : Fin 1)).view.read (Elt F) (m ((c : Thread nD τ).loc main_arg6))

/-! ## The pipeline's proof data -/

/-- What the body starts from besides its buffers. -/
def start (c : Dev nD) : sProp 𝕄 := iprop(∃ K, ctx (ins m) K ∗ marks ∗ barSt c ∗ six (pos c) ∗ allToks c)
def Φ₀ (c : Dev nD) : sProp 𝕄 := iprop(start m c ∗ scr c)
def Φ₁ (c : Dev nD) : sProp 𝕄 := iprop(zeros c ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m).x c
    | ⟨1, _⟩ => (ins m).w1 0 c
    | ⟨2, _⟩ => (ins m).w2 0 c
    | ⟨3, _⟩ => (ins m).w1 1 c
    | ⟨4, _⟩ => (ins m).w2 1 c
    | ⟨5, _⟩ => (ins m).w1 2 c
    | ⟨6, _⟩ => (ins m).w2 2 c
    | ⟨7, _⟩ => out (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

section Body

theorem before_0 (c : Dev nD) (d) : (dats m ρ 0 c).before (0 : Fin 8) w₀ d = (ins m).x c := by unfold Dat.before; rw [if_pos (fetch0_0 w₀)]; rfl
theorem before_1 (c : Dev nD) (d) : (dats m ρ 0 c).before (1 : Fin 8) w₀ d = (ins m).w1 0 c := by unfold Dat.before; rw [if_pos (fetch0_1 w₀)]; rfl
theorem before_2 (c : Dev nD) (d) : (dats m ρ 0 c).before (2 : Fin 8) w₀ d = (ins m).w2 0 c := by unfold Dat.before; rw [if_pos (fetch0_2 w₀)]; rfl
theorem before_3 (c : Dev nD) (d) : (dats m ρ 0 c).before (3 : Fin 8) w₀ d = (ins m).w1 1 c := by unfold Dat.before; rw [if_pos (fetch0_3 w₀)]; rfl
theorem before_4 (c : Dev nD) (d) : (dats m ρ 0 c).before (4 : Fin 8) w₀ d = (ins m).w2 1 c := by unfold Dat.before; rw [if_pos (fetch0_4 w₀)]; rfl
theorem before_5 (c : Dev nD) (d) : (dats m ρ 0 c).before (5 : Fin 8) w₀ d = (ins m).w1 2 c := by unfold Dat.before; rw [if_pos (fetch0_5 w₀)]; rfl
theorem before_6 (c : Dev nD) (d) : (dats m ρ 0 c).before (6 : Fin 8) w₀ d = (ins m).w2 2 c := by unfold Dat.before; rw [if_pos (fetch0_6 w₀)]; rfl

/-- The staged inputs, and the result's staging buffer beside them. -/
def staged (c : Dev nD) (o : sProp 𝕄) : sProp 𝕄 :=
  iprop(has c (Memref.whole cc0_stg0_0) ((ins m).x c)
    ∗ owns (c : Thread nD τ) (Memref.whole cc0_stg1_0) fullShare ((ins m).w1 0 c) ∗ owns (c : Thread nD τ) (Memref.whole cc0_stg2_0) fullShare ((ins m).w2 0 c)
    ∗ owns (c : Thread nD τ) (Memref.whole cc0_stg3_0) fullShare ((ins m).w1 1 c) ∗ owns (c : Thread nD τ) (Memref.whole cc0_stg4_0) fullShare ((ins m).w2 1 c)
    ∗ owns (c : Thread nD τ) (Memref.whole cc0_stg5_0) fullShare ((ins m).w1 2 c) ∗ owns (c : Thread nD τ) (Memref.whole cc0_stg6_0) fullShare ((ins m).w2 2 c)
    ∗ o)

def bodyPost (c : Dev nD) : sProp 𝕄 :=
  iprop(Φ₁ c ∗ (dats m ρ 0 c).owesAt 0 w₀.succ ∗ staged m c (has c (Memref.whole cc0_stg7_0) (out (ins m) c)))

set_option maxHeartbeats 1000000 in
theorem sound_body (c : Dev nD) :
    iprop(Φ₀ m c ∗ (dats m ρ 0 c).owesAt 0 w₀.castSucc ∗ staged m c (free c (Memref.whole cc0_stg7_0)))
      ⊢ wp frame (wpE (defs₀ (F := F)) 𝒱₀ c none) Set.univ
          (Prog.op .deviceId fun d => whole (F := F) (Memref.whole cc0_stg0_0) (Memref.whole cc0_stg1_0) (Memref.whole cc0_stg2_0) (Memref.whole cc0_stg3_0)
            (Memref.whole cc0_stg4_0) (Memref.whole cc0_stg5_0) (Memref.whole cc0_stg6_0) (Memref.whole cc0_stg7_0) d) fun _ => bodyPost m ρ c := by
  rw [wp_deviceId]
  unfold Φ₀ start staged Dat.owesAt Pipeline.owesWithin
  rw [show (dats m ρ 0 c).owed w₀.castSucc = O₀ c from rfl]
  iintro ⟨⟨⟨%K, #Hctx, #Hm, Hbar, Hpos, Htoks⟩, Hscr⟩, ⟨%W, %hW, HO⟩, Hx, H1, H2, H3, H4, H5, H6, Ho⟩
  iapply (wp_whole (ins m) K c _ _ _ _ _ _ _ _ W)
  isplitr; · iexact Hctx
  isplitr; · iexact Hm
  isplitl [Hbar]; · iexact Hbar
  isplitl [Hpos]; · iexact Hpos
  isplitl [Htoks]; · iexact Htoks
  isplitl [Hscr]; · iexact Hscr
  isplitl [HO]; · iexact HO
  isplitl [Hx]; · iexact Hx
  isplitl [H1 H2 H3 H4 H5 H6]
  · unfold weights
    isplitl [H1]; · iexact H1
    isplitl [H2]; · iexact H2
    isplitl [H3]; · iexact H3
    isplitl [H4]; · iexact H4
    isplitl [H5]; · iexact H5
    iexact H6
  isplitl [Ho]; · iexact Ho
  iintro ⟨Hz, Hscr, ⟨%W', HO⟩, Hx, Hw, Ho⟩
  unfold bodyPost Φ₁ staged weights Dat.owesAt Pipeline.owesWithin
  rw [show (dats m ρ 0 c).owed w₀.succ = 0 from rfl]
  icases Hw with ⟨H1, H2, H3, H4, H5, H6⟩
  isplitl [Hz Hscr]
  · isplitl [Hz]; · iexact Hz
    iexact Hscr
  isplitl [HO]
  · iexists W'
    isplitr; · ipureintro; exact fun _ _ => Or.inl trivial
    iexact HO
  isplitl [Hx]; · iexact Hx
  isplitl [H1]; · iexact H1
  isplitl [H2]; · iexact H2
  isplitl [H3]; · iexact H3
  isplitl [H4]; · iexact H4
  isplitl [H5]; · iexact H5
  isplitl [H6]; · iexact H6
  iexact Ho

set_option maxRecDepth 8000 in
/-- The library's body obligation on device `c`. -/
theorem body_obligation (c : Dev nD) : BodyObligation (dats m ρ 0 c) (defs₀ (F := F)) 𝒱₀ 0 Set.univ := fun t => by
  rw [fin_N t, bigSep_W0, bigSep_W0]
  show iprop(Φ₀ m c ∗ (dats m ρ 0 c).owesAt 0 w₀.castSucc
      ∗ (∃ d, owns (c : Thread nD τ) (Memref.whole cc0_stg0_0) fullShare ((dats m ρ 0 c).before (0 : Fin 8) w₀ d))
      ∗ (∃ d, owns (c : Thread nD τ) (Memref.whole cc0_stg1_0) fullShare ((dats m ρ 0 c).before (1 : Fin 8) w₀ d))
      ∗ (∃ d, owns (c : Thread nD τ) (Memref.whole cc0_stg2_0) fullShare ((dats m ρ 0 c).before (2 : Fin 8) w₀ d))
      ∗ (∃ d, owns (c : Thread nD τ) (Memref.whole cc0_stg3_0) fullShare ((dats m ρ 0 c).before (3 : Fin 8) w₀ d))
      ∗ (∃ d, owns (c : Thread nD τ) (Memref.whole cc0_stg4_0) fullShare ((dats m ρ 0 c).before (4 : Fin 8) w₀ d))
      ∗ (∃ d, owns (c : Thread nD τ) (Memref.whole cc0_stg5_0) fullShare ((dats m ρ 0 c).before (5 : Fin 8) w₀ d))
      ∗ (∃ d, owns (c : Thread nD τ) (Memref.whole cc0_stg6_0) fullShare ((dats m ρ 0 c).before (6 : Fin 8) w₀ d))
      ∗ (∃ d, owns (c : Thread nD τ) (Memref.whole cc0_stg7_0) fullShare ((dats m ρ 0 c).before (7 : Fin 8) w₀ d)))
    ⊢ wp frame (wpE (defs₀ (F := F)) 𝒱₀ c none) Set.univ
      (Prog.op .deviceId fun d => whole (F := F) (Memref.whole cc0_stg0_0) (Memref.whole cc0_stg1_0) (Memref.whole cc0_stg2_0) (Memref.whole cc0_stg3_0)
            (Memref.whole cc0_stg4_0) (Memref.whole cc0_stg5_0) (Memref.whole cc0_stg6_0) (Memref.whole cc0_stg7_0) d) fun _ => bodyPost m ρ c
  simp only [before_0, before_1, before_2, before_3, before_4, before_5, before_6]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (sound_body m ρ c)
  unfold staged
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  unfold free; iexists _; iexact H7

end Body

/-! ## The cells, and the tokens minted for them -/

abbrev osem : Fin 12 → SemLoc sig
  | 0 => .dma (sS 0) | 1 => .dma (sS 1) | 2 => .dma (sS 2) | 3 => .dma (sS 3) | 4 => .dma (sS 4) | 5 => .dma (sS 5)
  | 6 => .dma (rS 0) | 7 => .dma (rS 1) | 8 => .dma (rS 2) | 9 => .dma (rS 3) | 10 => .dma (rS 4) | 11 => .dma (rS 5)
theorem ownSemFacts : Pipeline.OwnSemFacts cfg0.spec osem := by decide

theorem csem_injective : Function.Injective csem := by decide
theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  rw [h2]
def ringCells : Finset (GSem nD τ sig) := Finset.univ.map ⟨kcell, kcell_injective⟩

/-- The duties of a device's own cells: the two of its barrier, and one a layer of each copy's cells. -/
abbrev TK : Type := Bool ⊕ (Fin 3 × Bool × Fin 6)
abbrev tokOf (ct : Dev nD × TK) : GSem nD τ sig × ℕ × Bool := match ct.2 with
  | .inl b => (barCell ct.1, 0, b)
  | .inr (l, b, k) => (kcell (ct.1, some (b, k)), l.val, false)
theorem tokOf_injective : Function.Injective (tokOf : Dev nD × TK → GSem nD τ sig × ℕ × Bool) := by
  rintro ⟨c, t⟩ ⟨c', t'⟩ h
  have h1 : c = c' := by
    have := congrArg (fun x : GSem nD τ sig × ℕ × Bool => x.1.1.1) h
    rcases t with b | ⟨l, b, k⟩ <;> rcases t' with b' | ⟨l', b', k'⟩ <;> exact this
  subst h1
  rcases t with b | ⟨l, b, k⟩ <;> rcases t' with b' | ⟨l', b', k'⟩
  · rw [show b = b' from congrArg (fun x : GSem nD τ sig × ℕ × Bool => x.2.2) h]
  · cases csem_injective (a₁ := none) (a₂ := some (b', k')) (congrArg (fun x : GSem nD τ sig × ℕ × Bool => x.1.2) h)
  · cases csem_injective (a₁ := some (b, k)) (a₂ := none) (congrArg (fun x : GSem nD τ sig × ℕ × Bool => x.1.2) h)
  · have h2 := csem_injective (a₁ := some (b, k)) (a₂ := some (b', k')) (congrArg (fun x : GSem nD τ sig × ℕ × Bool => x.1.2) h)
    have h3 : l = l' := Fin.ext (congrArg (fun x : GSem nD τ sig × ℕ × Bool => x.2.1) h)
    cases h2; subst h3; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def tok (ct : Dev nD × TK) : sProp 𝕄 := dutyTok ER (tokOf ct).1 (tokOf ct).2.1 (tokOf ct).2.2

/-- Whose cell it is that device `c` pays at, and back. -/
def pay : TK → Dev nD → Dev nD
  | .inl true => lf
  | .inl false => rt
  | .inr (_, false, _) => id
  | .inr (_, true, k) => tgt k
def payer : TK → Dev nD → Dev nD
  | .inl true => rt
  | .inl false => lf
  | .inr (_, false, _) => id
  | .inr (_, true, k) => frm k
theorem pay_payer (t : TK) (c : Dev nD) : pay t (payer t c) = c := by revert t c; decide
theorem payer_pay (t : TK) (c : Dev nD) : payer t (pay t c) = c := by revert t c; decide
def around (t : TK) : Dev nD ≃ Dev nD := ⟨pay t, payer t, payer_pay t, pay_payer t⟩

/-- The tokens device `c` pays with. -/
def payToks (c : Dev nD) : sProp 𝕄 := bigSep Finset.univ fun t : TK => tok (pay t c, t)

theorem toks_around : (bigSep Finset.univ fun c : Dev nD => bigSep Finset.univ fun t : TK => tok (F := F) (c, t))
    = bigSep Finset.univ fun c : Dev nD => payToks c := by
  unfold payToks
  rw [bigSep_univ_comm, bigSep_univ_comm (fun (c : Dev nD) (t : TK) => tok (F := F) (pay t c, t))]
  exact bigSep_congr fun t _ => bigSep_univ_equiv (around t) (fun c : Dev nD => tok (F := F) (c, t))

/-- The duty tokens of a copy in one layer. -/
def dtok (c : Dev nD) (l : ℕ) (k : Fin 6) : sProp 𝕄 := iprop(dutyTok ER (sCell c k) l false ∗ dutyTok ER (rCell (tgt k c) k) l false)

theorem payToks_eq (c : Dev nD) : payToks (F := F) c
    = iprop((dutyTok ER (barCell (rt c)) 0 false ∗ dutyTok ER (barCell (lf c)) 0 true) ∗ six (dtok c 0) ∗ six (dtok c 1) ∗ six (dtok c 2)) := by
  have h (l : Fin 3) : (bigSep Finset.univ fun bk : Bool × Fin 6 => tok (F := F) (pay (.inr (l, bk)) c, .inr (l, bk))) = six (dtok c l) := by
    rw [bigSep_univ_prod, sum_bool, sum_six, sum_six]
    exact (six_sep _ _).symm
  unfold payToks
  rw [bigSep_univ_sum, sum_bool, bigSep_univ_prod, sum_three, h, h, h]
  rfl

/-! ## What each device is dealt -/

def G (c : Dev nD) : sProp 𝕄 :=
  iprop((bigSep Finset.univ fun k : CK => roundState ER (ringRd (ins m)) (kcell (c, k)) 0)
    ∗ (bigSep Finset.univ fun k : CK => iprop(atPos ER (kcell (c, k)) 0 ∅ 0 ∗ reached ER (kcell (c, k)) 0))
    ∗ bigSep Finset.univ fun t : TK => tok (c, t))

/-- The invariants of all cells under names `K`. -/
def invs (K : Dev nD × CK → ℕ) : sProp 𝕄 := bigSep Finset.univ fun ck => cellInv ER (ringRd (ins m)) (K ck) (kcell ck)
instance invs_persistent (K : Dev nD × CK → ℕ) : BI.Persistent (invs m K) := by unfold invs; infer_instance

def linear (c : Dev nD) : sProp 𝕄 := iprop((bigSep Finset.univ fun k : CK => atPos ER (kcell (c, k)) 0 ∅ 0) ∗ payToks c)
def G' (c : Dev nD) : sProp 𝕄 := iprop(∃ K, (invs m K ∗ marks) ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : TK => tok (c, t) := by
    unfold ringToks; rw [bigSep_map, bigSep_univ_prod]; rfl
  iintro HX
  imod (Rounds.fund ER (ringRd (ins m)) ringCells ringToks) $$ HX with ⟨Hst, Hr, Hat, Htok⟩
  imodintro
  ihave Hst' := (Entails.of_eq (hX fun g => roundState ER (ringRd (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄) = six (zero2 c) := by
  unfold zero2
  rw [six_sep, Pipeline.ownSems0_eq_of_list c osem [0, 1, 2, 3, 4, 5, 6, 7, 8, 9, 10, 11] (by decide) (by decide)]
  unfold six
  refine BI.Entails.antisymm (show iprop(semVal (sCell c 0) 0 ∗ semVal (sCell c 1) 0 ∗ semVal (sCell c 2) 0 ∗ semVal (sCell c 3) 0 ∗ semVal (sCell c 4) 0 ∗ semVal (sCell c 5) 0
      ∗ semVal (rCell c 0) 0 ∗ semVal (rCell c 1) 0 ∗ semVal (rCell c 2) 0 ∗ semVal (rCell c 3) 0 ∗ semVal (rCell c 4) 0 ∗ semVal (rCell c 5) 0) ⊢ _ from ?_)
    (show _ ⊢ iprop(semVal (sCell c 0) 0 ∗ semVal (sCell c 1) 0 ∗ semVal (sCell c 2) 0 ∗ semVal (sCell c 3) 0 ∗ semVal (sCell c 4) 0 ∗ semVal (sCell c 5) 0
      ∗ semVal (rCell c 0) 0 ∗ semVal (rCell c 1) 0 ∗ semVal (rCell c 2) 0 ∗ semVal (rCell c 3) 0 ∗ semVal (rCell c 4) 0 ∗ semVal (rCell c 5) 0) from ?_)
  · iintro ⟨H0, H1, H2, H3, H4, H5, H⟩
    isplitl [H0 H1 H2 H3 H4 H5]
    · isplitl [H0]; · iexact H0
      isplitl [H1]; · iexact H1
      isplitl [H2]; · iexact H2
      isplitl [H3]; · iexact H3
      isplitl [H4]; · iexact H4
      iexact H5
    iexact H
  · iintro ⟨⟨H0, H1, H2, H3, H4, H5⟩, H⟩
    isplitl [H0]; · iexact H0
    isplitl [H1]; · iexact H1
    isplitl [H2]; · iexact H2
    isplitl [H3]; · iexact H3
    isplitl [H4]; · iexact H4
    isplitl [H5]; · iexact H5
    iexact H
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, sum_cells]
  exact BI.sep_comm

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd (ins m)) κ (kcell (c, k))))
          ∗ (bigSep Finset.univ fun k => iprop(atPos ER (kcell (c, k)) 0 ∅ 0 ∗ reached ER (kcell (c, k)) 0)) ∗ bigSep Finset.univ fun t : TK => tok (c, t)) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd (ins m)) (kcell (c, k)) 0)
      ⊢ (|={Set.univ}=> bigSep Finset.univ fun k => iprop(∃ κ : ℕ, cellInv ER (ringRd (ins m)) κ (kcell (c, k))) : sProp 𝕄) from by
        rw [← bigSep_sep']
        exact (bigSep_mono fun k _ => (Rounds.body_intro ER (ringRd (ins m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (ringRd (ins m)) κ (kcell (c, k))))
          ∗ (bigSep Finset.univ fun k => iprop(atPos ER (kcell (c, k)) 0 ∅ 0 ∗ reached ER (kcell (c, k)) 0)) ∗ bigSep Finset.univ fun t : TK => tok (c, t)) : sProp 𝕄)
      ⊢ bigSep Finset.univ (G' m) := by
  rw [bigSep_sep', bigSep_sep', ← bigSep_univ_prod (fun ck : Dev nD × CK => iprop(∃ κ : ℕ, cellInv ER (ringRd (ins m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (ringRd (ins m)) κ (kcell ck) : sProp 𝕄))) $$ HI
  icases HK with ⟨%K, #HI⟩
  iapply (BI.bigSep_with_persistent (R := iprop(invs m K ∗ marks)) (Φ := linear) (Ψ := G' m) fun c _ => by unfold G'; iintro H; iexists K; iexact H)
  isplitr
  · isplitr
    · unfold invs; iexact HI
    · unfold marks; iexact HR
  unfold linear
  rw [bigSep_sep']
  isplitl [Hat]; · iexact Hat
  iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

def crd (c : Dev nD) (l : ℕ) (k : Fin 6) : sProp 𝕄 := cred (tallyAt (rCell c k) l N)

theorem sum_18 (Φ : ℕ → sProp 𝕄) : bigSep (Finset.Ico 0 18) Φ
    ⊢ iprop(six (fun k => Φ (6 * 0 + k)) ∗ six (fun k => Φ (6 * 1 + k)) ∗ six (fun k => Φ (6 * 2 + k))) := by
  have h (a : ℕ) (hb : a + 6 ≤ 18) : bigSep (Finset.Ico a 18) Φ ⊢ iprop(six (fun k => Φ (a + k)) ∗ bigSep (Finset.Ico (a + 6) 18) Φ) := by
    rw [bigSep_Ico_succ_bot (by omega), bigSep_Ico_succ_bot (by omega), bigSep_Ico_succ_bot (by omega),
      bigSep_Ico_succ_bot (by omega), bigSep_Ico_succ_bot (by omega), bigSep_Ico_succ_bot (by omega)]
    unfold six
    iintro ⟨H0, H1, H2, H3, H4, H5, H⟩
    isplitl [H0 H1 H2 H3 H4 H5]
    · isplitl [H0]; · iexact H0
      isplitl [H1]; · iexact H1
      isplitl [H2]; · iexact H2
      isplitl [H3]; · iexact H3
      isplitl [H4]; · iexact H4
      iexact H5
    iexact H
  refine (h 0 (by decide)).trans (BI.sep_mono (BI.Entails.refl _) ((h 6 (by decide)).trans (BI.sep_mono (BI.Entails.refl _) ((h 12 (by decide)).trans ?_))))
  iintro ⟨H, -⟩
  iexact H

theorem creds_rem (c : Dev nD) : (Pipeline.launchCred (fun d => Orem d 0) c : sProp 𝕄) ⊢ iprop(six (crd c 0) ∗ six (crd c 1) ∗ six (crd c 2)) := by
  have h (l : ℕ) (k : Fin 6) : (Pipeline.launchCred (fun d => dueN d (6 * l + k)) c : sProp 𝕄) ⊢ crd c l k := by
    simp only [dueN_eq]
    exact Pipeline.launchCred_tallyAt (.dma (rS k)) (tgt k) (frm k) (tgt_frm k) (frm_tgt k) l N c
  unfold Orem
  rw [Pipeline.launchCred_sum (Finset.Ico 0 18) (fun i d => dueN d i) c]
  exact (sum_18 _).trans (BI.sep_mono (six_mono (h 0)) (BI.sep_mono (six_mono (h 1)) (six_mono (h 2))))

theorem creds (c : Dev nD) :
    (Pipeline.launchCred O₀ c : sProp 𝕄) ⊢ iprop(cred (tallyAt (barCell c) 0 2) ∗ six (crd c 0) ∗ six (crd c 1) ∗ six (crd c 2)) := by
  rw [show (O₀ : Dev nD → CellTallies nD τ sig ℕ) = fun d => (Orem d 0 + tallyAt (barCell (rt d)) 0 1) + tallyAt (barCell (lf d)) 0 1 from rfl,
    Pipeline.launchCred_add, Pipeline.launchCred_add]
  iintro ⟨⟨H, H1⟩, H2⟩
  ihave H1 := (Pipeline.launchCred_tallyAt (.reg barS) rt lf rt_lf lf_rt 0 1 c) $$ H1
  ihave H2 := (Pipeline.launchCred_tallyAt (.reg barS) lf rt lf_rt rt_lf 0 1 c) $$ H2
  isplitl [H1 H2]
  · rw [show (2 : ℕ) = 1 + 1 from rfl, ← tallyAt_add]
    iapply (cred_add _ _).2
    isplitl [H1]; · iexact H1
    iexact H2
  iapply (creds_rem c); iexact H

/-! ## The side conditions of the run -/

theorem toks_join (c : Dev nD) (l : ℕ) : iprop(six (dtok (F := F) c l) ∗ six (crd c l)) ⊢ six (toks c l) := by
  rw [← six_sep]
  refine six_mono fun k => ?_
  unfold dtok crd toks
  iintro ⟨⟨H1, H2⟩, H3⟩
  isplitl [H1]; · iexact H1
  isplitl [H2]; · iexact H2
  iexact H3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' linear
  rw [sum_cells, payToks_eq]
  iintro ⟨-, #Hlev, Hcr, -, ⟨%K, ⟨#HI, #Hm⟩, ⟨Hb, Hp⟩, ⟨Ht1, Ht2⟩, D0, D1, D2⟩⟩
  ihave Hc := (creds (F := F) c) $$ Hcr
  icases Hc with ⟨Hcb, C0, C1, C2⟩
  imodintro
  isplitl
  · unfold start
    iexists K
    isplitr
    · unfold ctx
      isplitr; · unfold invs; iexact HI
      iexact Hlev
    isplitr; · iexact Hm
    isplitl [Hb Ht1 Ht2 Hcb]
    · unfold barSt
      isplitl [Hb]; · iexact Hb
      isplitl [Ht2]; · iexact Ht2
      isplitl [Ht1]; · iexact Ht1
      iexact Hcb
    isplitl [Hp]; · iexact Hp
    unfold allToks
    isplitl [D0 C0]
    · iapply (toks_join c 0); isplitl [D0]; · iexact D0
      iexact C0
    isplitl [D1 C1]
    · iapply (toks_join c 1); isplitl [D1]; · iexact D1
      iexact C1
    iapply (toks_join c 2); isplitl [D2]; · iexact D2
    iexact C2
  · iempintro

/-- A whole buffer at some contents is a free one. -/
theorem any_eq (c : Dev nD) (b : Ref sig .tc) :
    (iprop(∃ f : Buf (Elt F) ((c : Thread nD τ).loc b), ((c : Thread nD τ).loc b) ↦{fullShare} f) : sProp 𝕄)
      = iprop(∃ f : b.ty.Contents (Elt F), owns (c : Thread nD τ) (Memref.whole b) fullShare f) := by
  simp only [owns_whole]

theorem scr_eq (c : Dev nD) : (Pipeline.scopedRest (Ix := ℕ) (Name := ℕ) (U := UU) (Lvl := ℕ) (Val := Elt F) cfg0.spec c : sProp 𝕄) = scr c := by
  rw [scopedRest0_eq]
  simp only [any_eq]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq, unscopedSems0_eq]
  unfold Φ₁ zeros
  iintro ⟨⟨H1, H2⟩, Hr⟩
  isplitl [H1]; · iexact H1
  isplitl [H2]; · iexact H2
  iexact Hr

theorem share_eq (c : Dev nD) (w : Fin cfg0.W) : (dats m ρ 0 c).share w = fullShare := by unfold Dat.share; split <;> rfl

theorem stage_ne (w : Fin cfg0.W) (s : Fin (cfg0.spec w).nbuf) : ∀ k, (cfg0.spec w).sem s ≠ rS k := by
  fin_cases w <;> fin_cases s <;> decide

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_start c _ (stage_ne w s)
    · exact (show (levAts L lv : sProp 𝕄) ⊢ MayWait (c : Thread nD τ) _ 0 0 by rw [MayWait_zero]; iintro H; iempintro)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of `main` on the four devices terminates, every
    array of the pipeline at its computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.EndKernelIdeal.lean ====
/-
# What the run leaves

The run of `main` read at the program's own buffers: the seven argument arrays as they were, each device's result array
at `out` of the launch's memory, every semaphore at zero. A window's one block is its whole array, so a block read is the
array itself.
-/
module

public import proofs.«01_k».proof.Proof.LaunchKernelIdeal

@[expose] public section

noncomputable section

namespace Cert.KernelIdeal.Ring

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- What a final state holds of the arguments. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem finalA_in (c : Dev nD) (w : Fin cfg0.W) (hw : (cfg0.win w).isOut = false) :
    finalA m ρ c w = m ((cfg0.win w).arr.view.loc (c : Thread nD τ)) :=
  (dats (F := F) m ρ 0 c).arrAt_in w hw _

theorem kept_of (r : PUnit × MemSt nD τ sig (Elt F)) (h : QC m ρ r) : Kept m r := fun c =>
  ⟨(h c (0 : Fin 8)).trans (finalA_in m ρ c (0 : Fin 8) rfl), (h c (1 : Fin 8)).trans (finalA_in m ρ c (1 : Fin 8) rfl),
    (h c (3 : Fin 8)).trans (finalA_in m ρ c (3 : Fin 8) rfl), (h c (5 : Fin 8)).trans (finalA_in m ρ c (5 : Fin 8) rfl),
    (h c (2 : Fin 8)).trans (finalA_in m ρ c (2 : Fin 8) rfl), (h c (4 : Fin 8)).trans (finalA_in m ρ c (4 : Fin 8) rfl),
    (h c (6 : Fin 8)).trans (finalA_in m ρ c (6 : Fin 8) rfl)⟩

/-! ## The one block of a window is its array -/

theorem block_0 (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem block_1 (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem block_2 (f : main_arg4.ty.Contents (Elt F)) : (win0_2.blk (0 : Fin 1)).view.read (Elt F) f = f :=
  Memref.read_access_unit_zero (Elt F) main_arg4 (funext fun a => by fin_cases a <;> decide) (fun a => by fin_cases a <;> decide) f
theorem block_3 (f : main_arg2.ty.Contents (Elt F)) : (win0_3.blk (0 : Fin 1)).view.read (Elt F) f = f :=
  Memref.read_access_unit_zero (Elt F) main_arg2 (funext fun a => by fin_cases a <;> decide) (fun a => by fin_cases a <;> decide) f
theorem block_4 (f : main_arg5.ty.Contents (Elt F)) : (win0_4.blk (0 : Fin 1)).view.read (Elt F) f = f :=
  Memref.read_access_unit_zero (Elt F) main_arg5 (funext fun a => by fin_cases a <;> decide) (fun a => by fin_cases a <;> decide) f
theorem block_5 (f : main_arg3.ty.Contents (Elt F)) : (win0_5.blk (0 : Fin 1)).view.read (Elt F) f = f :=
  Memref.read_access_unit_zero (Elt F) main_arg3 (funext fun a => by fin_cases a <;> decide) (fun a => by fin_cases a <;> decide) f
theorem block_6 (f : main_arg6.ty.Contents (Elt F)) : (win0_6.blk (0 : Fin 1)).view.read (Elt F) f = f :=
  Memref.read_access_unit_zero (Elt F) main_arg6 (funext fun a => by fin_cases a <;> decide) (fun a => by fin_cases a <;> decide) f
theorem block_7 (f : main_v1.ty.Contents (Elt F)) : (win0_7.blk (0 : Fin 1)).view.read (Elt F) f = f :=
  Memref.read_access_unit_zero (Elt F) main_v1 (funext fun a => by fin_cases a <;> decide) (fun a => by fin_cases a <;> decide) f

theorem finalA_out (c : Dev nD) : finalA m ρ c (7 : Fin 8) = out (ins m) c := by
  refine (block_7 _).symm.trans ?_
  unfold finalA
  rw [show cfg0.N = ((0 : Fin 1) : Fin cfg0.N).val + 1 from rfl, (dats m ρ 0 c).arrAt_succ (7 : Fin 8) (0 : Fin 1),
    show (cfg0.win (7 : Fin 8)).flush (0 : Fin 1) = true from by decide, if_pos rfl]
  exact View.read_write_univ _ _

/-- The run, read at the program's buffers. -/
theorem run_end : θ_run defs (onTc (τ := τ) (main (F := F))) ⟨m, fun _ => 0, ρ⟩ (fun r =>
    Kept m r ∧ (∀ c : Dev nD, r.2.mem ((c.tc : Thread nD τ).loc main_v1) = out (ins m) c) ∧ r.2.sem = fun _ => 0) :=
  (θ_run defs _ _).mono (fun r h => ⟨kept_of m ρ r h.1, fun c => (h.1 c (7 : Fin 8)).trans (finalA_out m ρ c), h.2⟩) (run_main m ρ)

end Cert.KernelIdeal.Ring

end
-- ==== Proof.SumsKernelIdeal.lean ====
/-
# The layer as a sum over the devices

At the ideal values: a device's share of a layer is a sum over its 512 hidden positions, the reference's layer is the sum
over all 2048 of them, and what a device adds up in a layer of the ring is the four shares of its own rows. So device `c`
holds block `c` of the reference's rows after every layer.
-/
module

public import proofs.«01_k».proof.Proof.RingKernelIdeal
public import proofs.«01_k».proof.Proof.Gen.ReferenceIdeal
public import Idealize.ShloMosaic.Lib.MatmulPlain
public import Idealize.ShloMosaic.Lib.StackMember
public import Idealize.ShloMosaic.Lib.Pipeline.Value
public import Idealize.ShloMosaic.Lib.Layout

@[expose] public section

noncomputable section

namespace Cert.KernelIdeal.Ring

open Cert.KernelIdeal Cert.KernelIdeal.Gen
open Idealize.ShloMosaic
open Idealize.ShloMosaic.ValueIdx
open scoped BigOperators

/-! ## A device's share -/

theorem pay1_eq (v : Vec Ideal S256x256 .f32) : k0_pay1 v = v := by
  unfold k0_pay1; exact (shapeCast_self _ _).trans (shapeCast_self _ _)
theorem pay16_eq (v : FVec Ideal S256x256 .f32) : k0_pay16 v = v := by
  unfold k0_pay16; rw [shapeCast_self]
theorem pay6_apply (a b : Vec Ideal S256x256 .f32) (i : S256x256.Idx) : k0_pay6 a b i = a i + b i := by
  unfold k0_pay6; rw [shapeCast_self]; rfl
theorem pay15_apply (a b e : Vec Ideal S256x256 .f32) (i : S256x256.Idx) : k0_pay15 a b e i = (a i + b i) + e i := rfl

theorem pay2_apply (y : Vec Ideal S256x256 .f32) (u : Vec Ideal S256x512 .f32) (w : Vec Ideal S512x256 .f32) (r j : Fin 256) :
    k0_pay2 y u w (ix2 r j) = ∑ k : Fin 512, max (∑ d : Fin 256, y (ix2 r d) * u (ix2 d k)) 0 * w (ix2 k j) := by
  unfold k0_pay2
  rw [shapeCast_self, shapeCast_self, shapeCast_self]
  refine (Ideal.matmul_plain_apply (M := 256) (K := 512) (N := 256) none _ w _ r j).trans ?_
  show Ideal.ofBits .f32 0x00000000#32 + _ = _
  rw [Ideal.ofBits_zero_f32, zero_add]
  refine Finset.sum_congr rfl fun k _ => congrArg (· * w (ix2 k j)) ?_
  refine (congrArg₂ max ((Ideal.matmul_plain_apply (M := 256) (K := 256) (N := 512) none y u _ r k).trans ?_) Ideal.ofBits_zero_f32)
  show Ideal.ofBits .f32 0x00000000#32 + _ = _
  rw [Ideal.ofBits_zero_f32, zero_add]

/-! ## The reference's layer -/

/-- One layer of the reference. -/
def mlp (X : FVec Ideal ReferenceIdeal.S1024x256 .f32) (U : FVec Ideal ReferenceIdeal.S256x2048 .f32) (W : FVec Ideal ReferenceIdeal.S2048x256 .f32) :
    FVec Ideal ReferenceIdeal.S1024x256 .f32 :=
  Host.dotGeneral ReferenceIdeal.dot_S1024x2048_S2048x256_S1024x256_1_0_0_1_n_n none
    (maximumf (Host.dotGeneral ReferenceIdeal.dot_S1024x256_S256x2048_S1024x2048_1_0_0_1_n_n none X U)
      (broadcastInDim ReferenceIdeal.S1024x2048 ![] ReferenceIdeal.Gen.bcast_S_S1024x2048 (constant ReferenceIdeal.S_ .f32 0x00000000#32))) W

theorem mlp_apply (X : FVec Ideal ReferenceIdeal.S1024x256 .f32) (U : FVec Ideal ReferenceIdeal.S256x2048 .f32)
    (W : FVec Ideal ReferenceIdeal.S2048x256 .f32) (r : Fin 1024) (j : Fin 256) :
    mlp X U W (ix2 r j) = ∑ k : Fin 2048, max (∑ d : Fin 256, X (ix2 r d) * U (ix2 d k)) 0 * W (ix2 k j) := by
  refine (StackMember.dotGeneral_plain_apply (m := 1024) (k := 2048) (n := 256) none _ W r j).trans ?_
  refine Finset.sum_congr rfl fun k _ => congrArg (· * W (ix2 k j)) ?_
  exact congrArg₂ max (StackMember.dotGeneral_plain_apply (m := 1024) (k := 256) (n := 2048) none X U r k) Ideal.ofBits_zero_f32

/-! ## Four blocks of the hidden positions -/

/-- Row `r` of block `c`. -/
def row (c : Fin 4) (r : Fin 256) : Fin 1024 := ⟨c.val * 256 + r.val, by omega⟩
/-- Hidden position `k` of block `c`. -/
def hid (c : Fin 4) (k : Fin 512) : Fin 2048 := ⟨c.val * 512 + k.val, by omega⟩

theorem sum_hid (f : Fin 2048 → EReal) : ∑ k : Fin 2048, f k = ∑ c : Fin 4, ∑ k : Fin 512, f (hid c k) := by
  rw [← Fintype.sum_prod_type', ← Equiv.sum_comp (finProdFinEquiv (m := 4) (n := 512)) f]
  refine Finset.sum_congr rfl fun p _ => congrArg f (Fin.ext ?_)
  show p.2.val + 512 * p.1.val = p.1.val * 512 + p.2.val
  omega

abbrev rowsOf (c : Fin 4) (X : FVec Ideal ReferenceIdeal.S1024x256 .f32) : Vec Ideal S256x256 .f32 :=
  Layout.block ⟨2, ![256, 256]⟩ ⟨2, ![1024, 256]⟩ 0 4 c X
abbrev colsOf (c : Fin 4) (U : FVec Ideal ReferenceIdeal.S256x2048 .f32) : Vec Ideal S256x512 .f32 :=
  Layout.block ⟨2, ![256, 512]⟩ ⟨2, ![256, 2048]⟩ 1 4 c U
abbrev hidOf (c : Fin 4) (W : FVec Ideal ReferenceIdeal.S2048x256 .f32) : Vec Ideal S512x256 .f32 :=
  Layout.block ⟨2, ![512, 256]⟩ ⟨2, ![2048, 256]⟩ 0 4 c W

theorem rowsOf_apply (c : Fin 4) (X : FVec Ideal ReferenceIdeal.S1024x256 .f32) (r j : Fin 256) : rowsOf c X (ix2 r j) = X (ix2 (row c r) j) :=
  congrArg X (funext fun a => by fin_cases a <;> rfl)
theorem colsOf_apply (c : Fin 4) (U : FVec Ideal ReferenceIdeal.S256x2048 .f32) (d : Fin 256) (k : Fin 512) :
    colsOf c U (ix2 d k) = U (ix2 d (hid c k)) :=
  congrArg U (funext fun a => by fin_cases a <;> rfl)
theorem hidOf_apply (c : Fin 4) (W : FVec Ideal ReferenceIdeal.S2048x256 .f32) (k : Fin 512) (j : Fin 256) :
    hidOf c W (ix2 k j) = W (ix2 (hid c k) j) :=
  congrArg W (funext fun a => by fin_cases a <;> rfl)

/-- Block `c` of the reference's layer is the sum of the four devices' shares of block `c`. -/
theorem mlp_block (c : Fin 4) (X : FVec Ideal ReferenceIdeal.S1024x256 .f32) (U : FVec Ideal ReferenceIdeal.S256x2048 .f32)
    (W : FVec Ideal ReferenceIdeal.S2048x256 .f32) (i : S256x256.Idx) :
    rowsOf c (mlp X U W) i = ∑ d : Fin 4, k0_pay2 (rowsOf c X) (colsOf d U) (hidOf d W) i := by
  obtain ⟨r, j, rfl⟩ : ∃ r j : Fin 256, i = ix2 r j := ⟨i 0, i 1, eq_ix2 i⟩
  rw [rowsOf_apply, mlp_apply, sum_hid]
  refine Finset.sum_congr rfl fun d _ => ?_
  rw [pay2_apply]
  refine Finset.sum_congr rfl fun k _ => ?_
  rw [hidOf_apply]
  refine congrArg (fun s => max s 0 * W (ix2 (hid d k) j)) (Finset.sum_congr rfl fun e _ => ?_)
  rw [rowsOf_apply, colsOf_apply]

/-! ## The ring's sum -/

theorem around_lf (c : Dev nD) : rt (lf c) = c := by revert c; decide
theorem around_rt (c : Dev nD) : lf (rt c) = c := by revert c; decide

theorem total_apply (I : Ins Ideal) (l : ℕ) (X : Dev nD → Vec Ideal S256x256 .f32) (c : Dev nD) (i : S256x256.Idx) :
    total I l X c i = ∑ d : Dev nD, part I l d (X c) i := by
  have h5 : sent I l X 5 (lf c) = part I l (lf c) (X c) := by
    show part I l (lf c) (X (rt (lf c))) = _; rw [around_lf]
  have h4 : sent I l X 4 (rt c) = k0_pay6 (part I l (rt c) (X c)) (part I l (rt (rt c)) (X c)) := by
    show k0_pay6 (part I l (rt c) (X (lf (rt c)))) (part I l (rt (rt c)) (X (lf (lf (rt (rt c)))))) = _
    rw [around_rt, around_rt, around_rt]
  unfold total
  rw [pay15_apply, h5, h4, pay6_apply]
  generalize X c = y
  show _ = ∑ d : Fin 4, part I l d y i
  rw [Fin.sum_univ_four]
  obtain rfl | rfl | rfl | rfl : c = 0 ∨ c = 1 ∨ c = 2 ∨ c = 3 := by clear h4 h5; revert c; decide
  · show (part I l 0 y i + part I l 3 y i) + (part I l 1 y i + part I l 2 y i) = _; abel
  · show (part I l 1 y i + part I l 0 y i) + (part I l 2 y i + part I l 3 y i) = _; abel
  · show (part I l 2 y i + part I l 1 y i) + (part I l 3 y i + part I l 0 y i) = _; abel
  · show (part I l 3 y i + part I l 2 y i) + (part I l 0 y i + part I l 1 y i) = _; abel

/-- A layer of the ring takes blocks of rows to blocks of the reference's rows. -/
theorem total_block (I : Ins Ideal) (l : ℕ) (Y : Dev nD → Vec Ideal S256x256 .f32) (X : FVec Ideal ReferenceIdeal.S1024x256 .f32)
    (U : FVec Ideal ReferenceIdeal.S256x2048 .f32) (W : FVec Ideal ReferenceIdeal.S2048x256 .f32)
    (hY : ∀ c, Y c = rowsOf c X) (hU : ∀ c, I.w1 l c = colsOf c U) (hW : ∀ c, I.w2 l c = hidOf c W) (c : Dev nD) :
    total I l Y c = rowsOf c (mlp X U W) := by
  funext i
  rw [total_apply, mlp_block, hY]
  exact Finset.sum_congr rfl fun d _ => by unfold part; rw [hU, hW]

/-- The kernel's result is the three layers of the reference, block by block. -/
theorem three_layers (I : Ins Ideal) (X : FVec Ideal ReferenceIdeal.S1024x256 .f32) (U : ℕ → FVec Ideal ReferenceIdeal.S256x2048 .f32)
    (W : ℕ → FVec Ideal ReferenceIdeal.S2048x256 .f32) (hX : ∀ c, I.x c = rowsOf c X)
    (hU : ∀ l, l < 3 → ∀ c, I.w1 l c = colsOf c (U l)) (hW : ∀ l, l < 3 → ∀ c, I.w2 l c = hidOf c (W l)) (c : Dev nD) :
    total I 2 (act I 2) c = rowsOf c (mlp (mlp (mlp X (U 0) (W 0)) (U 1) (W 1)) (U 2) (W 2)) := by
  have h0 : ∀ c, act I 0 c = rowsOf c X := fun c => by
    show k0_pay1 (I.x c) = _; rw [pay1_eq, hX]
  have h1 : ∀ c, act I 1 c = rowsOf c (mlp X (U 0) (W 0)) := fun c => by
    show k0_pay16 (total I 0 (act I 0) c) = _; rw [pay16_eq]
    exact total_block I 0 _ X _ _ h0 (hU 0 (by decide)) (hW 0 (by decide)) c
  have h2 : ∀ c, act I 2 c = rowsOf c (mlp (mlp X (U 0) (W 0)) (U 1) (W 1)) := fun c => by
    show k0_pay16 (total I 1 (act I 1) c) = _; rw [pay16_eq]
    exact total_block I 1 _ _ _ _ h1 (hU 1 (by decide)) (hW 1 (by decide)) c
  exact total_block I 2 _ _ _ _ h2 (hU 2 (by decide)) (hW 2 (by decide)) c

end Cert.KernelIdeal.Ring

end
-- ==== Proof.lean ====
/-
# The claims

The proof of `Cert.Claim`: the frames of the kernel, of the kernel at the ideal values and of the reference, and the equality
of the two over the extended reals. The kernel's run is `Ring.run_end`, the reference's is generated, and
`Ring.three_layers` is the equation between what they leave.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.EndKernel
public import proofs.«01_k».proof.Proof.EndKernelIdeal
public import proofs.«01_k».proof.Proof.SumsKernelIdeal
public import Idealize.ShloMosaic.Lib.Quiescent

@[expose] public section

noncomputable section

namespace Cert.Proof

open Idealize.ShloMosaic Idealize.SL.Sem Cert.Kernel

/-- The kernel's run leaves its arguments as they were and every semaphore at zero. -/
theorem frame_kernel : Cert.quiescent_Kernel := fun m g _ =>
  (θ_run _ _ _).mono (fun _ h => ⟨h.1, h.2.2⟩) (Cert.Kernel.Ring.run_end (F := Bits) m g)

/-- So does its run at the ideal values. -/
theorem frame_kernelIdeal : Cert.quiescent_KernelIdeal := fun m g _ =>
  (θ_run _ _ _).mono (fun _ h => ⟨h.1, h.2.2⟩) (Cert.KernelIdeal.Ring.run_end (F := Ideal) m g)

/-- The reference's operations write no argument, and it declares no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

open Cert.KernelIdeal.Ring in
/-- Each device's result is its block of rows of the reference's three layers. -/
theorem value : Cert.algebraic_KernelIdeal_ReferenceIdeal := by
  intro m g m' g' _ hm
  refine ⟨_, (θ_run _ _ _).mono (fun r h c => ⟨(h.2.1 c).trans ?_, h.1 c⟩) (run_end (F := Ideal) m g),
    (θ_run _ _ _).mono (fun r h => h 0) (Cert.ReferenceIdeal.Value.run (F := Ideal) m' g')⟩
  let at' (b : Ref Cert.ReferenceIdeal.sig .tc) := m' (((0 : Dev Cert.ReferenceIdeal.nD).tc : Thread Cert.ReferenceIdeal.nD Cert.ReferenceIdeal.τ).loc b)
  refine three_layers (ins m) (at' Cert.ReferenceIdeal.main_arg0)
    (fun l => match l with | 0 => at' Cert.ReferenceIdeal.main_arg1 | 1 => at' Cert.ReferenceIdeal.main_arg2 | _ => at' Cert.ReferenceIdeal.main_arg3)
    (fun l => match l with | 0 => at' Cert.ReferenceIdeal.main_arg4 | 1 => at' Cert.ReferenceIdeal.main_arg5 | _ => at' Cert.ReferenceIdeal.main_arg6)
    (fun c => (block_0 _).trans (hm c).1) (fun l hl c => ?_) (fun l hl c => ?_) c
  · match l, hl with
    | 0, _ => exact (block_1 _).trans (hm c).2.1
    | 1, _ => exact (block_3 _).trans (hm c).2.2.1
    | 2, _ => exact (block_5 _).trans (hm c).2.2.2.1
  · match l, hl with
    | 0, _ => exact (block_2 _).trans (hm c).2.2.2.2.1
    | 1, _ => exact (block_4 _).trans (hm c).2.2.2.2.2.1
    | 2, _ => exact (block_6 _).trans (hm c).2.2.2.2.2.2

/-- Every claim of the certificate. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
